-- ==== Defs.lean ====
def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_regular [hPre_regular : Cert.Pre_regular.Facts] (m : (ℓ : Loc Cert.HeadIdeal.nD Cert.HeadIdeal.τ Cert.HeadIdeal.sig) → Buf (Elt Ideal) ℓ) : Prop :=
  ∀ c : Dev Cert.HeadIdeal.nD,
    (Cert.Pre_regular.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))) = (fun _ => 1#1)

def Pre_HeadReferenceIdeal (m : (ℓ : Loc Cert.HeadReferenceIdeal.nD Cert.HeadReferenceIdeal.τ Cert.HeadReferenceIdeal.sig) → Buf (Elt Ideal) ℓ) : Prop :=
  True

def Pre_HeadReferenceIdeal_regular [hPre_regular : Cert.Pre_regular.Facts] (m : (ℓ : Loc Cert.HeadReferenceIdeal.nD Cert.HeadReferenceIdeal.τ Cert.HeadReferenceIdeal.sig) → Buf (Elt Ideal) ℓ) : Prop :=
  ∀ c : Dev Cert.HeadReferenceIdeal.nD,
    (Cert.Pre_regular.fn (F := Ideal) (m ((c.tc : Thread Cert.HeadReferenceIdeal.nD Cert.HeadReferenceIdeal.τ).loc Cert.HeadReferenceIdeal.main_arg0)) (m ((c.tc : Thread Cert.HeadReferenceIdeal.nD Cert.HeadReferenceIdeal.τ).loc Cert.HeadReferenceIdeal.main_arg1)) (m ((c.tc : Thread Cert.HeadReferenceIdeal.nD Cert.HeadReferenceIdeal.τ).loc Cert.HeadReferenceIdeal.main_arg2)) (m ((c.tc : Thread Cert.HeadReferenceIdeal.nD Cert.HeadReferenceIdeal.τ).loc Cert.HeadReferenceIdeal.main_arg3)) (m ((c.tc : Thread Cert.HeadReferenceIdeal.nD Cert.HeadReferenceIdeal.τ).loc Cert.HeadReferenceIdeal.main_arg4))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadIdeal_pre_regular [hHeadIdeal : Cert.HeadIdeal.Facts] [hPre_regular : Cert.Pre_regular.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_regular m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadReferenceIdeal [hHeadReferenceIdeal : Cert.HeadReferenceIdeal.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def quiescent_HeadReferenceIdeal_pre_regular [hHeadReferenceIdeal : Cert.HeadReferenceIdeal.Facts] [hPre_regular : Cert.Pre_regular.Facts] : Prop :=
  ∀ (m : (ℓ : Loc Cert.HeadReferenceIdeal.nD Cert.HeadReferenceIdeal.τ Cert.HeadReferenceIdeal.sig) → Buf (Elt Ideal) ℓ) (g : Dev Cert.HeadReferenceIdeal.nD → PrngReg), Pre_HeadReferenceIdeal_regular m →
    θ_run (Cert.HeadReferenceIdeal.defs (F := Ideal)) (onTc (τ := Cert.HeadReferenceIdeal.τ) (Cert.HeadReferenceIdeal.main (F := Ideal))) ⟨m, fun _ => 0, g⟩ (fun r => (∀ c : Dev Cert.HeadReferenceIdeal.nD,
      r.2.mem ((c.tc : Thread Cert.HeadReferenceIdeal.nD Cert.HeadReferenceIdeal.τ).loc Cert.HeadReferenceIdeal.main_arg0) = m ((c.tc : Thread Cert.HeadReferenceIdeal.nD Cert.HeadReferenceIdeal.τ).loc Cert.HeadReferenceIdeal.main_arg0)
      ∧ r.2.mem ((c.tc : Thread Cert.HeadReferenceIdeal.nD Cert.HeadReferenceIdeal.τ).loc Cert.HeadReferenceIdeal.main_arg1) = m ((c.tc : Thread Cert.HeadReferenceIdeal.nD Cert.HeadReferenceIdeal.τ).loc Cert.HeadReferenceIdeal.main_arg1)
      ∧ r.2.mem ((c.tc : Thread Cert.HeadReferenceIdeal.nD Cert.HeadReferenceIdeal.τ).loc Cert.HeadReferenceIdeal.main_arg2) = m ((c.tc : Thread Cert.HeadReferenceIdeal.nD Cert.HeadReferenceIdeal.τ).loc Cert.HeadReferenceIdeal.main_arg2)
      ∧ r.2.mem ((c.tc : Thread Cert.HeadReferenceIdeal.nD Cert.HeadReferenceIdeal.τ).loc Cert.HeadReferenceIdeal.main_arg3) = m ((c.tc : Thread Cert.HeadReferenceIdeal.nD Cert.HeadReferenceIdeal.τ).loc Cert.HeadReferenceIdeal.main_arg3)
      ∧ r.2.mem ((c.tc : Thread Cert.HeadReferenceIdeal.nD Cert.HeadReferenceIdeal.τ).loc Cert.HeadReferenceIdeal.main_arg4) = m ((c.tc : Thread Cert.HeadReferenceIdeal.nD Cert.HeadReferenceIdeal.τ).loc Cert.HeadReferenceIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Head_HeadIdeal : Prop :=
  IdealRules.named_const.Statement Cert.HeadIdeal.κ "inv_d" .f32 0x39CCCCCD#32 ((1 / 2560 : ℝ) : EReal)

def algebraic_HeadIdeal_HeadReferenceIdeal_pre_regular [hHeadIdeal : Cert.HeadIdeal.Facts] [hHeadReferenceIdeal : Cert.HeadReferenceIdeal.Facts] [hPre_regular : Cert.Pre_regular.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadReferenceIdeal.nD Cert.HeadReferenceIdeal.τ Cert.HeadReferenceIdeal.sig) → Buf (Elt Ideal) ℓ) (g' : Dev Cert.HeadReferenceIdeal.nD → PrngReg), Pre_HeadIdeal_regular m →
    (∀ c : Dev Cert.HeadIdeal.nD,
      m' ((c.tc : Thread Cert.HeadReferenceIdeal.nD Cert.HeadReferenceIdeal.τ).loc Cert.HeadReferenceIdeal.main_arg0) = m ((c.tc : Thread Cert.HeadIdeal.nD Cert.HeadIdeal.τ).loc Cert.HeadIdeal.main_arg0)
      ∧ m' ((c.tc : Thread Cert.HeadReferenceIdeal.nD Cert.HeadReferenceIdeal.τ).loc Cert.HeadReferenceIdeal.main_arg1) = m ((c.tc : Thread Cert.HeadIdeal.nD Cert.HeadIdeal.τ).loc Cert.HeadIdeal.main_arg1)
      ∧ m' ((c.tc : Thread Cert.HeadReferenceIdeal.nD Cert.HeadReferenceIdeal.τ).loc Cert.HeadReferenceIdeal.main_arg2) = m ((c.tc : Thread Cert.HeadIdeal.nD Cert.HeadIdeal.τ).loc Cert.HeadIdeal.main_arg2)
      ∧ m' ((c.tc : Thread Cert.HeadReferenceIdeal.nD Cert.HeadReferenceIdeal.τ).loc Cert.HeadReferenceIdeal.main_arg3) = m ((c.tc : Thread Cert.HeadIdeal.nD Cert.HeadIdeal.τ).loc Cert.HeadIdeal.main_arg3)
      ∧ m' ((c.tc : Thread Cert.HeadReferenceIdeal.nD Cert.HeadReferenceIdeal.τ).loc Cert.HeadReferenceIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v4_0)) (v1 : (c : Dev Cert.HeadIdeal.nD) → Buf (Elt Ideal) ((c.tc : Thread Cert.HeadIdeal.nD Cert.HeadIdeal.τ).loc Cert.HeadIdeal.main_v4_1)) (v2 : (c : Dev Cert.HeadIdeal.nD) → Buf (Elt Ideal) ((c.tc : Thread Cert.HeadIdeal.nD Cert.HeadIdeal.τ).loc Cert.HeadIdeal.main_v4_2)) (v3 : (c : Dev Cert.HeadIdeal.nD) → Buf (Elt Ideal) ((c.tc : Thread Cert.HeadIdeal.nD Cert.HeadIdeal.τ).loc Cert.HeadIdeal.main_v4_3)) (v4 : (c : Dev Cert.HeadIdeal.nD) → Buf (Elt Ideal) ((c.tc : Thread Cert.HeadIdeal.nD Cert.HeadIdeal.τ).loc Cert.HeadIdeal.main_v4_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v4_0) = v0 c
          ∧ r.2.mem ((c.tc : Thread Cert.HeadIdeal.nD Cert.HeadIdeal.τ).loc Cert.HeadIdeal.main_v4_1) = v1 c
          ∧ r.2.mem ((c.tc : Thread Cert.HeadIdeal.nD Cert.HeadIdeal.τ).loc Cert.HeadIdeal.main_v4_2) = v2 c
          ∧ r.2.mem ((c.tc : Thread Cert.HeadIdeal.nD Cert.HeadIdeal.τ).loc Cert.HeadIdeal.main_v4_3) = v3 c
          ∧ r.2.mem ((c.tc : Thread Cert.HeadIdeal.nD Cert.HeadIdeal.τ).loc Cert.HeadIdeal.main_v4_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadReferenceIdeal.defs (F := Ideal)) (onTc (τ := Cert.HeadReferenceIdeal.τ) (Cert.HeadReferenceIdeal.main (F := Ideal))) ⟨m', fun _ => 0, g'⟩ (fun r => ∀ c : Dev Cert.HeadReferenceIdeal.nD,
          r.2.mem ((c.tc : Thread Cert.HeadReferenceIdeal.nD Cert.HeadReferenceIdeal.τ).loc Cert.HeadReferenceIdeal.main_v0_0) = v0 c
          ∧ r.2.mem ((c.tc : Thread Cert.HeadReferenceIdeal.nD Cert.HeadReferenceIdeal.τ).loc Cert.HeadReferenceIdeal.main_v0_1) = v1 c
          ∧ r.2.mem ((c.tc : Thread Cert.HeadReferenceIdeal.nD Cert.HeadReferenceIdeal.τ).loc Cert.HeadReferenceIdeal.main_v0_2) = v2 c
          ∧ r.2.mem ((c.tc : Thread Cert.HeadReferenceIdeal.nD Cert.HeadReferenceIdeal.τ).loc Cert.HeadReferenceIdeal.main_v0_3) = v3 c
          ∧ r.2.mem ((c.tc : Thread Cert.HeadReferenceIdeal.nD Cert.HeadReferenceIdeal.τ).loc Cert.HeadReferenceIdeal.main_v0_4) = v4 c
          ∧ r.2.mem ((c.tc : Thread Cert.HeadReferenceIdeal.nD Cert.HeadReferenceIdeal.τ).loc Cert.HeadReferenceIdeal.main_arg0) = m' ((c.tc : Thread Cert.HeadReferenceIdeal.nD Cert.HeadReferenceIdeal.τ).loc Cert.HeadReferenceIdeal.main_arg0)
          ∧ r.2.mem ((c.tc : Thread Cert.HeadReferenceIdeal.nD Cert.HeadReferenceIdeal.τ).loc Cert.HeadReferenceIdeal.main_arg1) = m' ((c.tc : Thread Cert.HeadReferenceIdeal.nD Cert.HeadReferenceIdeal.τ).loc Cert.HeadReferenceIdeal.main_arg1)
          ∧ r.2.mem ((c.tc : Thread Cert.HeadReferenceIdeal.nD Cert.HeadReferenceIdeal.τ).loc Cert.HeadReferenceIdeal.main_arg2) = m' ((c.tc : Thread Cert.HeadReferenceIdeal.nD Cert.HeadReferenceIdeal.τ).loc Cert.HeadReferenceIdeal.main_arg2)
          ∧ r.2.mem ((c.tc : Thread Cert.HeadReferenceIdeal.nD Cert.HeadReferenceIdeal.τ).loc Cert.HeadReferenceIdeal.main_arg3) = m' ((c.tc : Thread Cert.HeadReferenceIdeal.nD Cert.HeadReferenceIdeal.τ).loc Cert.HeadReferenceIdeal.main_arg3)
          ∧ r.2.mem ((c.tc : Thread Cert.HeadReferenceIdeal.nD Cert.HeadReferenceIdeal.τ).loc Cert.HeadReferenceIdeal.main_arg4) = m' ((c.tc : Thread Cert.HeadReferenceIdeal.nD Cert.HeadReferenceIdeal.τ).loc Cert.HeadReferenceIdeal.main_arg4))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hHead : Cert.Head.Facts) (hHeadIdeal : Cert.HeadIdeal.Facts) (hHeadReferenceIdeal : Cert.HeadReferenceIdeal.Facts) (hKernel : Cert.Kernel.Facts) (hKernelIdeal : Cert.KernelIdeal.Facts) (hReferenceIdeal : Cert.ReferenceIdeal.Facts) (hPre_regular : Cert.Pre_regular.Facts),
    quiescent_Head (hHead := hHead)
    ∧ quiescent_HeadIdeal (hHeadIdeal := hHeadIdeal)
    ∧ quiescent_HeadIdeal_pre_regular (hHeadIdeal := hHeadIdeal) (hPre_regular := hPre_regular)
    ∧ quiescent_HeadReferenceIdeal (hHeadReferenceIdeal := hHeadReferenceIdeal)
    ∧ quiescent_HeadReferenceIdeal_pre_regular (hHeadReferenceIdeal := hHeadReferenceIdeal) (hPre_regular := hPre_regular)
    ∧ quiescent_Kernel (hKernel := hKernel)
    ∧ quiescent_KernelIdeal (hKernelIdeal := hKernelIdeal)
    ∧ quiescent_ReferenceIdeal (hReferenceIdeal := hReferenceIdeal)
    ∧ preserves_Head_HeadIdeal
    ∧ algebraic_HeadIdeal_HeadReferenceIdeal_pre_regular (hHeadIdeal := hHeadIdeal) (hHeadReferenceIdeal := hHeadReferenceIdeal) (hPre_regular := hPre_regular)
    ∧ preserves_Kernel_KernelIdeal
    ∧ algebraic_KernelIdeal_ReferenceIdeal (hKernelIdeal := hKernelIdeal) (hReferenceIdeal := hReferenceIdeal)
-- ==== Pre_regular.lean ====
abbrev S3x512x2560 : Shape := ⟨3, ![3, 512, 2560]⟩
abbrev S2560 : Shape := ⟨1, ![2560]⟩
abbrev S3x512 : Shape := ⟨2, ![3, 512]⟩
abbrev S3x5x2560 : Shape := ⟨3, ![3, 5, 2560]⟩
abbrev S_ : Shape := ⟨0, ![]⟩
abbrev S3x512x1 : Shape := ⟨3, ![3, 512, 1]⟩
abbrev S5 : Shape := ⟨1, ![5]⟩
abbrev S1x1x5 : Shape := ⟨3, ![1, 1, 5]⟩
abbrev S3x512x5 : Shape := ⟨3, ![3, 512, 5]⟩
abbrev S3x5 : Shape := ⟨2, ![3, 5]⟩
abbrev S1x1x2560 : Shape := ⟨3, ![1, 1, 2560]⟩
abbrev S3x5x1 : Shape := ⟨3, ![3, 5, 1]⟩

class Facts : Prop where
  bitsLt_bf16_f32 : FTy.bits .bf16 < FTy.bits .f32
  reducesTo_S3x512x2560_S3x512_d2 : S3x512x2560.ReducesTo [2] S3x512
  h_S_ : 0 < S_.numel
  bcast_S3x512_S3x512x1_0_1 : S3x512.BroadcastsInDim S3x512x1 (![0, 1] : Fin 2 → Fin S3x512x1.rank)
  bcast_S_S3x512x1 : S_.BroadcastsInDim S3x512x1 (![] : Fin 0 → Fin S3x512x1.rank)
  bcast_S3x512x1_S3x512x2560_0_1_2 : S3x512x1.BroadcastsInDim S3x512x2560 (![0, 1, 2] : Fin 3 → Fin S3x512x2560.rank)
  bcast_S5_S1x1x5_2 : S5.BroadcastsInDim S1x1x5 (![2] : Fin 1 → Fin S1x1x5.rank)
  bcast_S3x512x1_S3x512x5_0_1_2 : S3x512x1.BroadcastsInDim S3x512x5 (![0, 1, 2] : Fin 3 → Fin S3x512x5.rank)
  bcast_S1x1x5_S3x512x5_0_1_2 : S1x1x5.BroadcastsInDim S3x512x5 (![0, 1, 2] : Fin 3 → Fin S3x512x5.rank)
  reducesTo_S3x512x5_S3x5_d1 : S3x512x5.ReducesTo [1] S3x5
  bcast_S2560_S1x1x2560_2 : S2560.BroadcastsInDim S1x1x2560 (![2] : Fin 1 → Fin S1x1x2560.rank)
  bcast_S1x1x2560_S3x512x2560_0_1_2 : S1x1x2560.BroadcastsInDim S3x512x2560 (![0, 1, 2] : Fin 3 → Fin S3x512x2560.rank)
  bcast_S3x5_S3x5x1_0_1 : S3x5.BroadcastsInDim S3x5x1 (![0, 1] : Fin 2 → Fin S3x5x1.rank)
  bcast_S3x5x1_S3x5x2560_0_1_2 : S3x5x1.BroadcastsInDim S3x5x2560 (![0, 1, 2] : Fin 3 → Fin S3x5x2560.rank)
  bcast_S_S3x5 : S_.BroadcastsInDim S3x5 (![] : Fin 0 → Fin S3x5.rank)
  reducesTo_S3x5x2560_S3x5_d2 : S3x5x2560.ReducesTo [2] S3x5
  bcast_S_S2560 : S_.BroadcastsInDim S2560 (![] : Fin 0 → Fin S2560.rank)
  bcast_S_S3x5x2560 : S_.BroadcastsInDim S3x5x2560 (![] : Fin 0 → Fin S3x5x2560.rank)
  bcast_S1x1x2560_S3x5x2560_0_1_2 : S1x1x2560.BroadcastsInDim S3x5x2560 (![0, 1, 2] : Fin 3 → Fin S3x5x2560.rank)
  dot_S3x512x5_S3x512x2560_S3x5x2560_1_1_2_2_0_0_wf : DotDims.WF S3x512x5 S3x512x2560 S3x5x2560 [1] [1] [2] [2] [0] [0]

variable [Facts]

def dot_S3x512x5_S3x512x2560_S3x5x2560_1_1_2_2_0_0 : DotDims S3x512x5 S3x512x2560 S3x5x2560 where
  lhsContracting := [1]
  rhsContracting := [1]
  lhsNonContracting := [2]
  rhsNonContracting := [2]
  lhsBatch := [0]
  rhsBatch := [0]
  wf := dot_S3x512x5_S3x512x2560_S3x5x2560_1_1_2_2_0_0_wf
def fn_part2 {F : FTy → Type} [FloatOps F] (main_arg1 : FVec F S2560 .f32) (main_arg4 : FVec F S3x5x2560 .f32) (main_v36 : IVec S3x5 1) (main_v38 : FVec F S3x5 .f32) (main_cst_7 : FVec F S_ .f32) : IVec S3x5x2560 1 :=
  let main_v39 : FVec F S3x5 .f32 := broadcastInDim S3x5 ![] bcast_S_S3x5 main_cst_7
  let main_v40 : IVec S3x5 1 := cmpf .ogt main_v38 main_v39
  let main_v41 : IVec S3x5 1 := andi main_v36 main_v40
  let main_v42 : FVec F S2560 .f32 := Host.absf main_arg1
  let main_cst_8 : FVec F S_ .f32 := constant S_ .f32 0x7F800000#32
  let main_v43 : FVec F S2560 .f32 := broadcastInDim S2560 ![] bcast_S_S2560 main_cst_8
  let main_v44 : IVec S2560 1 := cmpf .olt main_v42 main_v43
  let main_v45 : FVec F S3x5x2560 .f32 := Host.absf main_arg4
  let main_cst_9 : FVec F S_ .f32 := constant S_ .f32 0x7F800000#32
  let main_v46 : FVec F S3x5x2560 .f32 := broadcastInDim S3x5x2560 ![] bcast_S_S3x5x2560 main_cst_9
  let main_v47 : IVec S3x5x2560 1 := cmpf .olt main_v45 main_v46
  let main_v48 : IVec S1x1x2560 1 := broadcastInDim S1x1x2560 ![2] bcast_S2560_S1x1x2560_2 main_v44
  let main_v49 : IVec S3x5x2560 1 := broadcastInDim S3x5x2560 ![0, 1, 2] bcast_S1x1x2560_S3x5x2560_0_1_2 main_v48
  let main_v50 : IVec S3x5x2560 1 := andi main_v49 main_v47
  let main_v51 : IVec S3x5x1 1 := broadcastInDim S3x5x1 ![0, 1] bcast_S3x5_S3x5x1_0_1 main_v41
  let main_v52 : IVec S3x5x2560 1 := broadcastInDim S3x5x2560 ![0, 1, 2] bcast_S3x5x1_S3x5x2560_0_1_2 main_v51
  let main_v53 : IVec S3x5x2560 1 := andi main_v50 main_v52
  main_v53

def fn_part1 {F : FTy → Type} [FloatOps F] (main_arg1 : FVec F S2560 .f32) (main_arg2 : FVec F S2560 .f32) (main_arg4 : FVec F S3x5x2560 .f32) (main_v16 : FVec F S3x512x2560 .f32) (main_v17 : IVec S3x512x1 32) (main_v18 : IVec S5 32) : IVec S3x5x2560 1 :=
  let main_v19 : IVec S1x1x5 32 := broadcastInDim S1x1x5 ![2] bcast_S5_S1x1x5_2 main_v18
  let main_v20 : IVec S3x512x5 32 := broadcastInDim S3x512x5 ![0, 1, 2] bcast_S3x512x1_S3x512x5_0_1_2 main_v17
  let main_v21 : IVec S3x512x5 32 := broadcastInDim S3x512x5 ![0, 1, 2] bcast_S1x1x5_S3x512x5_0_1_2 main_v19
  let main_v22 : IVec S3x512x5 1 := cmpi .eq main_v20 main_v21
  let main_v23 : FVec F S3x512x5 .f32 := uitofp .f32 main_v22
  let main_cst_4 : FVec F S_ .f32 := constant S_ .f32 0x00000000#32
  let main_v24 : FVec F S3x5 .f32 := (fun x v => Host.reduceAdd x v reducesTo_S3x512x5_S3x5_d1 h_S_) main_v23 main_cst_4
  let main_v25 : FVec F S1x1x2560 .f32 := broadcastInDim S1x1x2560 ![2] bcast_S2560_S1x1x2560_2 main_arg1
  let main_v26 : FVec F S3x512x2560 .f32 := broadcastInDim S3x512x2560 ![0, 1, 2] bcast_S1x1x2560_S3x512x2560_0_1_2 main_v25
  let main_v27 : FVec F S3x512x2560 .f32 := mulf main_v16 main_v26
  let main_v28 : FVec F S1x1x2560 .f32 := broadcastInDim S1x1x2560 ![2] bcast_S2560_S1x1x2560_2 main_arg2
  let main_v29 : FVec F S3x512x2560 .f32 := broadcastInDim S3x512x2560 ![0, 1, 2] bcast_S1x1x2560_S3x512x2560_0_1_2 main_v28
  let main_v30 : FVec F S3x512x2560 .f32 := addf main_v27 main_v29
  let main_v31 : FVec F S3x5x2560 .f32 := (fun l r => Host.dotGeneral dot_S3x512x5_S3x512x2560_S3x5x2560_1_1_2_2_0_0 (some .fp32) l r) main_v23 main_v30
  let main_v32 : FVec F S3x5x1 .f32 := broadcastInDim S3x5x1 ![0, 1] bcast_S3x5_S3x5x1_0_1 main_v24
  let main_v33 : FVec F S3x5x2560 .f32 := broadcastInDim S3x5x2560 ![0, 1, 2] bcast_S3x5x1_S3x5x2560_0_1_2 main_v32
  let main_v34 : FVec F S3x5x2560 .f32 := Host.divf main_v31 main_v33
  let main_cst_5 : FVec F S_ .f32 := constant S_ .f32 0x00000000#32
  let main_v35 : FVec F S3x5 .f32 := broadcastInDim S3x5 ![] bcast_S_S3x5 main_cst_5
  let main_v36 : IVec S3x5 1 := cmpf .ogt main_v24 main_v35
  let main_v37 : FVec F S3x5x2560 .f32 := mulf main_v34 main_v34
  let main_cst_6 : FVec F S_ .f32 := constant S_ .f32 0x00000000#32
  let main_v38 : FVec F S3x5 .f32 := (fun x v => Host.reduceAdd x v reducesTo_S3x5x2560_S3x5_d2 h_S_) main_v37 main_cst_6
  let main_cst_7 : FVec F S_ .f32 := constant S_ .f32 0x00000000#32
  fn_part2 (F := F) main_arg1 main_arg4 main_v36 main_v38 main_cst_7

def fn {F : FTy → Type} [FloatOps F] (main_arg0 : FVec F S3x512x2560 .bf16) (main_arg1 : FVec F S2560 .f32) (main_arg2 : FVec F S2560 .f32) (main_arg3 : IVec S3x512 32) (main_arg4 : FVec F S3x5x2560 .f32) : IVec S3x5x2560 1 :=
  let main_v0 : FVec F S3x512x2560 .f32 := (extf .f32 · bitsLt_bf16_f32) main_arg0
  let main_cst : FVec F S_ .f32 := constant S_ .f32 0x00000000#32
  let main_v1 : FVec F S3x512 .f32 := (fun x v => Host.reduceAdd x v reducesTo_S3x512x2560_S3x512_d2 h_S_) main_v0 main_cst
  let main_v2 : FVec F S3x512x1 .f32 := broadcastInDim S3x512x1 ![0, 1] bcast_S3x512_S3x512x1_0_1 main_v1
  let main_cst_0 : FVec F S_ .f32 := constant S_ .f32 0x45200000#32
  let main_v3 : FVec F S3x512x1 .f32 := broadcastInDim S3x512x1 ![] bcast_S_S3x512x1 main_cst_0
  let main_v4 : FVec F S3x512x1 .f32 := Host.divf main_v2 main_v3
  let main_v5 : FVec F S3x512x2560 .f32 := broadcastInDim S3x512x2560 ![0, 1, 2] bcast_S3x512x1_S3x512x2560_0_1_2 main_v4
  let main_v6 : FVec F S3x512x2560 .f32 := subf main_v0 main_v5
  let main_v7 : FVec F S3x512x2560 .f32 := mulf main_v6 main_v6
  let main_cst_1 : FVec F S_ .f32 := constant S_ .f32 0x00000000#32
  let main_v8 : FVec F S3x512 .f32 := (fun x v => Host.reduceAdd x v reducesTo_S3x512x2560_S3x512_d2 h_S_) main_v7 main_cst_1
  let main_v9 : FVec F S3x512x1 .f32 := broadcastInDim S3x512x1 ![0, 1] bcast_S3x512_S3x512x1_0_1 main_v8
  let main_cst_2 : FVec F S_ .f32 := constant S_ .f32 0x45200000#32
  let main_v10 : FVec F S3x512x1 .f32 := broadcastInDim S3x512x1 ![] bcast_S_S3x512x1 main_cst_2
  let main_v11 : FVec F S3x512x1 .f32 := Host.divf main_v9 main_v10
  let main_cst_3 : FVec F S_ .f32 := constant S_ .f32 0x3727C5AC#32
  let main_v12 : FVec F S3x512x1 .f32 := broadcastInDim S3x512x1 ![] bcast_S_S3x512x1 main_cst_3
  let main_v13 : FVec F S3x512x1 .f32 := addf main_v11 main_v12
  let main_v14 : FVec F S3x512x1 .f32 := Host.rsqrt main_v13
  let main_v15 : FVec F S3x512x2560 .f32 := broadcastInDim S3x512x2560 ![0, 1, 2] bcast_S3x512x1_S3x512x2560_0_1_2 main_v14
  let main_v16 : FVec F S3x512x2560 .f32 := mulf main_v6 main_v15
  let main_v17 : IVec S3x512x1 32 := broadcastInDim S3x512x1 ![0, 1] bcast_S3x512_S3x512x1_0_1 main_arg3
  let main_v18 : IVec S5 32 := iotaInDim S5 32 0
  fn_part1 (F := F) main_arg1 main_arg2 main_arg4 main_v16 main_v17 main_v18
-- ==== Head.lean ====
abbrev S3x512x2560 : Shape := ⟨3, ![3, 512, 2560]⟩
abbrev S2560 : Shape := ⟨1, ![2560]⟩
abbrev S3x512 : Shape := ⟨2, ![3, 512]⟩
abbrev S3x5x2560 : Shape := ⟨3, ![3, 5, 2560]⟩
abbrev S_ : Shape := ⟨0, ![]⟩
abbrev S3x8x2560 : Shape := ⟨3, ![3, 8, 2560]⟩
abbrev S3x1x512 : Shape := ⟨3, ![3, 1, 512]⟩
abbrev S1x2560 : Shape := ⟨2, ![1, 2560]⟩
abbrev S3x512x20 : Shape := ⟨3, ![3, 512, 20]⟩
abbrev S1x512x2560 : Shape := ⟨3, ![1, 512, 2560]⟩
abbrev S1x1x512 : Shape := ⟨3, ![1, 1, 512]⟩
abbrev S1x8x2560 : Shape := ⟨3, ![1, 8, 2560]⟩
abbrev S1x512x20 : Shape := ⟨3, ![1, 512, 20]⟩
abbrev S512x2560 : Shape := ⟨2, ![512, 2560]⟩
abbrev S512x256 : Shape := ⟨2, ![512, 256]⟩
abbrev S1x32x2560 : Shape := ⟨3, ![1, 32, 2560]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S1x512 : Shape := ⟨2, ![1, 512]⟩
abbrev S8x512 : Shape := ⟨2, ![8, 512]⟩
abbrev S8 : Shape := ⟨1, ![8]⟩
abbrev S8x1 : Shape := ⟨2, ![8, 1]⟩
abbrev S8x2560 : Shape := ⟨2, ![8, 2560]⟩
abbrev S128x512 : Shape := ⟨2, ![128, 512]⟩
abbrev S512x128 : Shape := ⟨2, ![512, 128]⟩
abbrev S1x1 : Shape := ⟨2, ![1, 1]⟩
abbrev S1x32x128 : Shape := ⟨3, ![1, 32, 128]⟩
abbrev S32x20 : Shape := ⟨2, ![32, 20]⟩
abbrev S1x32x20 : Shape := ⟨3, ![1, 32, 20]⟩

abbrev nBuf : Space → Nat
  | .hbm => 16
  | .vmem => 18
  | .smem => 0
  | _ => 0

abbrev bufTy : (tb : Table) → Fin (tcTables nBuf tb) → BufTy
  | .hbm, ⟨0, _⟩ => ⟨S3x512x2560, .bf16⟩
  | .hbm, ⟨1, _⟩ => ⟨S2560, .f32⟩
  | .hbm, ⟨2, _⟩ => ⟨S2560, .f32⟩
  | .hbm, ⟨3, _⟩ => ⟨S3x512, .i32⟩
  | .hbm, ⟨4, _⟩ => ⟨S3x5x2560, .f32⟩
  | .hbm, ⟨5, _⟩ => ⟨S_, .i32⟩
  | .hbm, ⟨6, _⟩ => ⟨S_, .f32⟩
  | .hbm, ⟨7, _⟩ => ⟨S3x8x2560, .f32⟩
  | .hbm, ⟨8, _⟩ => ⟨S3x1x512, .i32⟩
  | .hbm, ⟨9, _⟩ => ⟨S1x2560, .f32⟩
  | .hbm, ⟨10, _⟩ => ⟨S1x2560, .f32⟩
  | .hbm, ⟨11, _⟩ => ⟨S3x512x2560, .bf16⟩
  | .hbm, ⟨12, _⟩ => ⟨S3x512x2560, .fp8e5m2⟩
  | .hbm, ⟨13, _⟩ => ⟨S3x512x20, .f32⟩
  | .hbm, ⟨14, _⟩ => ⟨S1x2560, .f32⟩
  | .hbm, ⟨15, _⟩ => ⟨S1x2560, .f32⟩
  | .local _ .vmem, ⟨0, _⟩ => ⟨S1x512x2560, .bf16⟩
  | .local _ .vmem, ⟨1, _⟩ => ⟨S1x512x2560, .bf16⟩
  | .local _ .vmem, ⟨2, _⟩ => ⟨S1x1x512, .i32⟩
  | .local _ .vmem, ⟨3, _⟩ => ⟨S1x1x512, .i32⟩
  | .local _ .vmem, ⟨4, _⟩ => ⟨S1x2560, .f32⟩
  | .local _ .vmem, ⟨5, _⟩ => ⟨S1x2560, .f32⟩
  | .local _ .vmem, ⟨6, _⟩ => ⟨S1x8x2560, .f32⟩
  | .local _ .vmem, ⟨7, _⟩ => ⟨S1x8x2560, .f32⟩
  | .local _ .vmem, ⟨8, _⟩ => ⟨S1x512x2560, .bf16⟩
  | .local _ .vmem, ⟨9, _⟩ => ⟨S1x512x2560, .bf16⟩
  | .local _ .vmem, ⟨10, _⟩ => ⟨S1x512x2560, .fp8e5m2⟩
  | .local _ .vmem, ⟨11, _⟩ => ⟨S1x512x2560, .fp8e5m2⟩
  | .local _ .vmem, ⟨12, _⟩ => ⟨S1x512x20, .f32⟩
  | .local _ .vmem, ⟨13, _⟩ => ⟨S1x512x20, .f32⟩
  | .local _ .vmem, ⟨14, _⟩ => ⟨S1x2560, .f32⟩
  | .local _ .vmem, ⟨15, _⟩ => ⟨S1x2560, .f32⟩
  | .local _ .vmem, ⟨16, _⟩ => ⟨S512x2560, .f32⟩
  | .local _ .vmem, ⟨17, _⟩ => ⟨S512x256, .f32⟩
  | _, _ => ⟨S3x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32 : BitVec 32 := 32#32
  let v90 : BitVec 32 := Scalar.muli arg13 c32_i32
  v90
def k0_off1 (k0_t1 : Fin k0_t1_loop.trips) : Fin 3 → Nat :=
  let c0_41 : Index := 0#32
  let c0_i32 : BitVec 32 := 0#32
  let c1_i32 : BitVec 32 := 1#32
  let arg13 : BitVec 32 := Scf.iv c0_i32 c1_i32 k0_t1
  let c32_i32 : BitVec 32 := 32#32
  let v90 : BitVec 32 := Scalar.muli arg13 c32_i32
  let v91 : BitVec 32 := v90
  let v92 : Index := Scalar.indexCast v91
  let c0_42 : Index := 0#32
  ![0, v92.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v90 : BitVec 32 := Scalar.muli arg13 c32_i32
  let v91 : BitVec 32 := v90
  let v112 : Index := Scalar.indexCast v91
  let c0_48 : Index := 0#32
  ![v112.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v90 : BitVec 32 := Scalar.muli arg13 c32_i32
  let v91 : BitVec 32 := v90
  let v118 : Index := Scalar.indexCast v91
  let c0_49 : Index := 0#32
  ![v118.toNat, 0]
@[reducible] def k0_t2_loop : Scf.Loop 32 :=
  let c0_i32_37 : BitVec 32 := 0#32
  let c16_i32_38 : BitVec 32 := 16#32
  let v89 : BitVec 32 := Scalar.addi c0_i32_37 c16_i32_38
  let c1_i32_39 : BitVec 32 := 1#32
  ⟨c0_i32_37, v89, c1_i32_39⟩
def k0_mult2 (k0_t2 : Fin k0_t2_loop.trips) : BitVec 32 :=
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  v90
def k0_off4 (k0_t2 : Fin k0_t2_loop.trips) : Fin 2 → Nat :=
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v92 : Index := Scalar.indexCast v91
  let c128_41 : Index := 128#32
  ![v92.toNat, 128]
def k0_off5 (k0_t2 : Fin k0_t2_loop.trips) : Fin 2 → Nat :=
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v94 : Index := Scalar.indexCast v91
  let c0_42 : Index := 0#32
  ![v94.toNat, 0]
def k0_off6 (k0_t2 : Fin k0_t2_loop.trips) : Fin 2 → Nat :=
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v96 : Index := Scalar.indexCast v91
  let c0_43 : Index := 0#32
  ![v96.toNat, 0]
def k0_off7 (k0_t2 : Fin k0_t2_loop.trips) : Fin 3 → Nat :=
  let c0_78 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v243 : Index := Scalar.indexCast v91
  let c0_79 : Index := 0#32
  ![0, v243.toNat, 0]
def k0_off8 (k0_t2 : Fin k0_t2_loop.trips) : Fin 3 → Nat :=
  let c0_107 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v326 : Index := Scalar.indexCast v91
  let c128_108 : Index := 128#32
  ![0, v326.toNat, 128]
def k0_off9 (k0_t2 : Fin k0_t2_loop.trips) : Fin 3 → Nat :=
  let c0_136 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v409 : Index := Scalar.indexCast v91
  let c256 : Index := 256#32
  ![0, v409.toNat, 256]
def k0_off10 (k0_t2 : Fin k0_t2_loop.trips) : Fin 3 → Nat :=
  let c0_164 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v492 : Index := Scalar.indexCast v91
  let c384 : Index := 384#32
  ![0, v492.toNat, 384]
def k0_off11 (k0_t2 : Fin k0_t2_loop.trips) : Fin 3 → Nat :=
  let c0_192 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v575 : Index := Scalar.indexCast v91
  let c512 : Index := 512#32
  ![0, v575.toNat, 512]
def k0_off12 (k0_t2 : Fin k0_t2_loop.trips) : Fin 3 → Nat :=
  let c0_220 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v658 : Index := Scalar.indexCast v91
  let c640 : Index := 640#32
  ![0, v658.toNat, 640]
def k0_off13 (k0_t2 : Fin k0_t2_loop.trips) : Fin 3 → Nat :=
  let c0_248 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v741 : Index := Scalar.indexCast v91
  let c768 : Index := 768#32
  ![0, v741.toNat, 768]
def k0_off14 (k0_t2 : Fin k0_t2_loop.trips) : Fin 3 → Nat :=
  let c0_276 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v824 : Index := Scalar.indexCast v91
  let c896 : Index := 896#32
  ![0, v824.toNat, 896]
def k0_off15 (k0_t2 : Fin k0_t2_loop.trips) : Fin 3 → Nat :=
  let c0_304 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v907 : Index := Scalar.indexCast v91
  let c1024 : Index := 1024#32
  ![0, v907.toNat, 1024]
def k0_off16 (k0_t2 : Fin k0_t2_loop.trips) : Fin 3 → Nat :=
  let c0_332 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v990 : Index := Scalar.indexCast v91
  let c1152 : Index := 1152#32
  ![0, v990.toNat, 1152]
def k0_off17 (k0_t2 : Fin k0_t2_loop.trips) : Fin 3 → Nat :=
  let c0_360 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1073 : Index := Scalar.indexCast v91
  let c1280 : Index := 1280#32
  ![0, v1073.toNat, 1280]
def k0_off18 (k0_t2 : Fin k0_t2_loop.trips) : Fin 3 → Nat :=
  let c0_388 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1156 : Index := Scalar.indexCast v91
  let c1408 : Index := 1408#32
  ![0, v1156.toNat, 1408]
def k0_off19 (k0_t2 : Fin k0_t2_loop.trips) : Fin 3 → Nat :=
  let c0_416 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1239 : Index := Scalar.indexCast v91
  let c1536 : Index := 1536#32
  ![0, v1239.toNat, 1536]
def k0_off20 (k0_t2 : Fin k0_t2_loop.trips) : Fin 3 → Nat :=
  let c0_444 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1322 : Index := Scalar.indexCast v91
  let c1664 : Index := 1664#32
  ![0, v1322.toNat, 1664]
def k0_off21 (k0_t2 : Fin k0_t2_loop.trips) : Fin 3 → Nat :=
  let c0_472 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1405 : Index := Scalar.indexCast v91
  let c1792 : Index := 1792#32
  ![0, v1405.toNat, 1792]
def k0_off22 (k0_t2 : Fin k0_t2_loop.trips) : Fin 3 → Nat :=
  let c0_500 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1488 : Index := Scalar.indexCast v91
  let c1920 : Index := 1920#32
  ![0, v1488.toNat, 1920]
def k0_off23 (k0_t2 : Fin k0_t2_loop.trips) : Fin 3 → Nat :=
  let c0_528 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1571 : Index := Scalar.indexCast v91
  let c2048 : Index := 2048#32
  ![0, v1571.toNat, 2048]
def k0_off24 (k0_t2 : Fin k0_t2_loop.trips) : Fin 3 → Nat :=
  let c0_556 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1654 : Index := Scalar.indexCast v91
  let c2176 : Index := 2176#32
  ![0, v1654.toNat, 2176]
def k0_off25 (k0_t2 : Fin k0_t2_loop.trips) : Fin 3 → Nat :=
  let c0_584 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1737 : Index := Scalar.indexCast v91
  let c2304 : Index := 2304#32
  ![0, v1737.toNat, 2304]
def k0_off26 (k0_t2 : Fin k0_t2_loop.trips) : Fin 3 → Nat :=
  let c0_612 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1820 : Index := Scalar.indexCast v91
  let c2432 : Index := 2432#32
  ![0, v1820.toNat, 2432]
def k0_off27 (k0_t2 : Fin k0_t2_loop.trips) : Fin 3 → Nat :=
  let c0_615 : Index := 0#32
  let c0_i32_37 : BitVec 32 := 0#32
  let c1_i32_39 : BitVec 32 := 1#32
  let arg13 : BitVec 32 := Scf.iv c0_i32_37 c1_i32_39 k0_t2
  let c32_i32 : BitVec 32 := 32#32
  let v90 : BitVec 32 := Scalar.muli arg13 c32_i32
  let v91 : BitVec 32 := v90
  let v1833 : Index := Scalar.indexCast v91
  let c0_616 : Index := 0#32
  ![0, v1833.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x2560 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== HeadIdeal.lean ====
variable {F : FTy → Type} [FloatOps F] [Named F]
def κ : String → Option EReal := fun
  | "inv_d" => some ((1 / 2560 : ℝ) : EReal)
  | _ => none
-- ==== HeadReferenceIdeal.lean ====
abbrev S3x512x2560 : Shape := ⟨3, ![3, 512, 2560]⟩
abbrev S2560 : Shape := ⟨1, ![2560]⟩
abbrev S3x512 : Shape := ⟨2, ![3, 512]⟩
abbrev S3x5x2560 : Shape := ⟨3, ![3, 5, 2560]⟩
abbrev S3x512x20 : Shape := ⟨3, ![3, 512, 20]⟩
abbrev S1x2560 : Shape := ⟨2, ![1, 2560]⟩
abbrev S3x512x1 : Shape := ⟨3, ![3, 512, 1]⟩
abbrev S1x1x2560 : Shape := ⟨3, ![1, 1, 2560]⟩
abbrev S3x512x5 : Shape := ⟨3, ![3, 512, 5]⟩
abbrev S3x5 : Shape := ⟨2, ![3, 5]⟩
abbrev S3x5x1 : Shape := ⟨3, ![3, 5, 1]⟩
abbrev S3x512x20x128 : Shape := ⟨4, ![3, 512, 20, 128]⟩
abbrev S3x512x20x1 : Shape := ⟨4, ![3, 512, 20, 1]⟩

abbrev nBuf : Space → Nat
  | .hbm => 10
  | .vmem => 10
  | .smem => 0
  | _ => 0

abbrev bufTy : (tb : Table) → Fin (tcTables nBuf tb) → BufTy
  | .hbm, ⟨0, _⟩ => ⟨S3x512x2560, .bf16⟩
  | .hbm, ⟨1, _⟩ => ⟨S2560, .f32⟩
  | .hbm, ⟨2, _⟩ => ⟨S2560, .f32⟩
  | .hbm, ⟨3, _⟩ => ⟨S3x512, .i32⟩
  | .hbm, ⟨4, _⟩ => ⟨S3x5x2560, .f32⟩
  | .hbm, ⟨5, _⟩ => ⟨S3x512x2560, .bf16⟩
  | .hbm, ⟨6, _⟩ => ⟨S3x512x2560, .fp8e5m2⟩
  | .hbm, ⟨7, _⟩ => ⟨S3x512x20, .f32⟩
  | .hbm, ⟨8, _⟩ => ⟨S1x2560, .f32⟩
  | .hbm, ⟨9, _⟩ => ⟨S1x2560, .f32⟩
  | .local _ .vmem, ⟨0, _⟩ => ⟨S3x512x2560, .bf16⟩
  | .local _ .vmem, ⟨1, _⟩ => ⟨S2560, .f32⟩
  | .local _ .vmem, ⟨2, _⟩ => ⟨S2560, .f32⟩
  | .local _ .vmem, ⟨3, _⟩ => ⟨S3x512, .i32⟩
  | .local _ .vmem, ⟨4, _⟩ => ⟨S3x5x2560, .f32⟩
  | .local _ .vmem, ⟨5, _⟩ => ⟨S3x512x2560, .bf16⟩
  | .local _ .vmem, ⟨6, _⟩ => ⟨S3x512x2560, .fp8e5m2⟩
  | .local _ .vmem, ⟨7, _⟩ => ⟨S3x512x20, .f32⟩
  | .local _ .vmem, ⟨8, _⟩ => ⟨S1x2560, .f32⟩
  | .local _ .vmem, ⟨9, _⟩ => ⟨S1x2560, .f32⟩
  | _, _ => ⟨S3x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S3x512x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x5x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512x2560 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x512x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Kernel.lean ====
abbrev S3x512x2560 : Shape := ⟨3, ![3, 512, 2560]⟩
abbrev S9728x2560 : Shape := ⟨2, ![9728, 2560]⟩
abbrev S76x20 : Shape := ⟨2, ![76, 20]⟩
abbrev S1520 : Shape := ⟨1, ![1520]⟩
abbrev S1536x2560 : Shape := ⟨2, ![1536, 2560]⟩
abbrev S1536x9728 : Shape := ⟨2, ![1536, 9728]⟩
abbrev S512x2560 : Shape := ⟨2, ![512, 2560]⟩
abbrev S1536x512 : Shape := ⟨2, ![1536, 512]⟩
abbrev S1 : Shape := ⟨1, ![1]⟩
abbrev S128x128 : Shape := ⟨2, ![128, 128]⟩
abbrev S512x512 : Shape := ⟨2, ![512, 512]⟩

abbrev nBuf : Space → Nat
  | .hbm => 6
  | .vmem => 6
  | .smem => 1
  | _ => 0

abbrev bufTy : (tb : Table) → Fin (tcTables nBuf tb) → BufTy
  | .hbm, ⟨0, _⟩ => ⟨S3x512x2560, .bf16⟩
  | .hbm, ⟨1, _⟩ => ⟨S9728x2560, .fp8e4m3⟩
  | .hbm, ⟨2, _⟩ => ⟨S76x20, .f32⟩
  | .hbm, ⟨3, _⟩ => ⟨S1520, .f32⟩
  | .hbm, ⟨4, _⟩ => ⟨S1536x2560, .bf16⟩
  | .hbm, ⟨5, _⟩ => ⟨S1536x9728, .bf16⟩
  | .local _ .vmem, ⟨0, _⟩ => ⟨S1536x2560, .bf16⟩
  | .local _ .vmem, ⟨1, _⟩ => ⟨S512x2560, .fp8e4m3⟩
  | .local _ .vmem, ⟨2, _⟩ => ⟨S512x2560, .fp8e4m3⟩
  | .local _ .vmem, ⟨3, _⟩ => ⟨S1536x512, .bf16⟩
  | .local _ .vmem, ⟨4, _⟩ => ⟨S1536x512, .bf16⟩
  | .local _ .vmem, ⟨5, _⟩ => ⟨S512x2560, .bf16⟩
  | .local _ .smem, ⟨0, _⟩ => ⟨S1520, .f32⟩
  | _, _ => ⟨S3x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![19], ![false]⟩

def k0_off1 (i : grid0.Coords) (c0_i32 : BitVec 32) (c0_i32_0 : BitVec 32) : Fin 1 → Nat :=
  let arg0 : BitVec 32 := BitVec.ofNat 32 (i 0).val
  let c4_i32 : BitVec 32 := 4#32
  let v0 : BitVec 32 := Scalar.muli arg0 c4_i32
  let v1 : BitVec 32 := Scalar.addi v0 c0_i32
  let c20_i32 : BitVec 32 := 20#32
  let v2 : BitVec 32 := Scalar.muli v1 c20_i32
  let v3 : BitVec 32 := Scalar.addi v2 c0_i32_0
  let v4 : Index := Scalar.indexCast v3
  ![v4.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1520 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S3x512x2560 : Shape := ⟨3, ![3, 512, 2560]⟩
abbrev S9728x2560 : Shape := ⟨2, ![9728, 2560]⟩
abbrev S76x20 : Shape := ⟨2, ![76, 20]⟩
abbrev S1536x9728 : Shape := ⟨2, ![1536, 9728]⟩
abbrev S76x1x20x1 : Shape := ⟨4, ![76, 1, 20, 1]⟩
abbrev S76x128x20x128 : Shape := ⟨4, ![76, 128, 20, 128]⟩
abbrev S3x512x9728 : Shape := ⟨3, ![3, 512, 9728]⟩

abbrev nBuf : Space → Nat
  | .hbm => 4
  | .vmem => 4
  | .smem => 0
  | _ => 0

abbrev bufTy : (tb : Table) → Fin (tcTables nBuf tb) → BufTy
  | .hbm, ⟨0, _⟩ => ⟨S3x512x2560, .bf16⟩
  | .hbm, ⟨1, _⟩ => ⟨S9728x2560, .fp8e4m3⟩
  | .hbm, ⟨2, _⟩ => ⟨S76x20, .f32⟩
  | .hbm, ⟨3, _⟩ => ⟨S1536x9728, .bf16⟩
  | .local _ .vmem, ⟨0, _⟩ => ⟨S3x512x2560, .bf16⟩
  | .local _ .vmem, ⟨1, _⟩ => ⟨S9728x2560, .fp8e4m3⟩
  | .local _ .vmem, ⟨2, _⟩ => ⟨S76x20, .f32⟩
  | .local _ .vmem, ⟨3, _⟩ => ⟨S1536x9728, .bf16⟩
  | _, _ => ⟨S3x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3x512x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9728x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S76x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x9728 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Grad.lean ====
/- The result both programs are shown to compute: the gradient times the transposed dequantised weight, one sum per element. -/
module
public import Idealize.ShloMosaic.PureOps.Ideal.Laws
public import Idealize.ShloMosaic.Lib.ValueIdxCore
@[expose] public section
noncomputable section
namespace Cert.Dgrad
open Idealize.ShloMosaic Idealize.ShloMosaic.ValueIdx

/-- Row `r` (batch `r / 512`, position `r % 512`), weight row `f`: the sum over the model width of the gradient times the
    weight's code times the scale of the 128 × 128 tile that holds the code. -/
def grad (a0 : (⟨3, ![3, 512, 2560]⟩ : Shape).Idx → EReal) (a1 : (⟨2, ![9728, 2560]⟩ : Shape).Idx → EReal)
    (a2 : (⟨2, ![76, 20]⟩ : Shape).Idx → EReal) (r : Fin 1536) (f : Fin 9728) : EReal :=
  ∑ k : Fin 2560, a0 (ix3 (⟨r.val / 512, by omega⟩ : Fin 3) (⟨r.val % 512, by omega⟩ : Fin 512) k)
    * (a1 (ix2 f k) * a2 (ix2 (⟨f.val / 128, by omega⟩ : Fin 76) (⟨k.val / 128, by omega⟩ : Fin 20)))

end Cert.Dgrad
end
-- ==== Proof.Block.lean ====
module
public import proofs.«01_k».proof.Proof.Gen.KernelIdeal.Value
public import Idealize.ShloMosaic.Lib.Tactic
public import Idealize.ShloMosaic.Lib.MatmulPlain
public import Idealize.ShloMosaic.Lib.Pipeline.ReadBack
@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.ValueIdx

/-- The place in the flat table of scales of the tile that holds row `r`, column `k` of point `i`'s weight rows. -/
def scaleIx (i : grid0.Coords) (y : S512x2560.Idx) : S1520.Idx :=
  ix1 (⟨((i 0).val * 4 + (y 0).val / 128) * 20 + (y 1).val / 128, by
    have h0 : (i 0).val < 19 := (i 0).isLt
    have h1 : (y 0).val < 512 := (y 0).isLt
    have h2 : (y 1).val < 2560 := (y 1).isLt
    omega⟩ : Fin 1520)

/-- The dequantised weight rows of one grid point: each code times its tile's scale. -/
def deq (i : grid0.Coords) (x0 : Vec Ideal S1520 .f32) (x2 : Vec Ideal S512x2560 .fp8e4m3) : Vec Ideal S512x2560 .bf16 :=
  fun y => ((x2 y : EReal) * (x0 (scaleIx i y) : EReal) : EReal)

theorem off1_eq (i : grid0.Coords) (aw bw : BitVec 32) (ha : aw.toNat < 4) (hb : bw.toNat < 20) :
    k0_off1 i aw bw 0 = ((i 0).val * 4 + aw.toNat) * 20 + bw.toNat := by
  have h0 : (i 0).val < 19 := (i 0).isLt
  show (((BitVec.ofNat 32 (i 0).val * 4#32 + aw) * 20#32 + bw : BitVec 32)).toNat = _
  simp only [BitVec.toNat_add, BitVec.toNat_mul, BitVec.toNat_ofNat]
  omega

/-- One 128 × 128 store of the dequantised tile is a block of `deq`. -/
theorem tile (i : grid0.Coords) {arg1 : Memref sig .tc .smem S1520 .f32} (harg1 : arg1.IsWhole)
    {arg3 : Memref sig .tc .vmem S512x2560 .fp8e4m3} (harg3 : arg3.IsWhole)
    (x0 : Vec Ideal S1520 .f32) (x2 : Vec Ideal S512x2560 .fp8e4m3) (o0 o1 : Nat) (inb')
    (P : FVec Ideal S128x128 .bf16) (L : List (View.Piece (Elt Ideal) S512x2560 .bf16))
    (h0 : o0 % 128 = 0) (h1 : o1 % 128 = 0) (ha : o0 / 128 < 4) (hb : o1 / 128 < 20)
    (hP : P = k0_pay3
      (View.readAt (Elt Ideal) arg1.view
        (Rect.unit (s := S1520) (k0_off1 i (BitVec.ofNat 32 (o0 / 128)) (BitVec.ofNat 32 (o1 / 128))) S1.size (k0_off1_inb i ⟨o0 / 128, ha⟩ ⟨o1 / 128, hb⟩)).toLoadRect
        (harg1.unread x0) (Shape.Idx.first (by exact numel1_S1.symm ▸ Nat.one_pos)))
      (View.readAt (Elt Ideal) arg3.view (Rect.unit (s := S512x2560) ![o0, o1] S128x128.size inb').toLoadRect (harg3.unread x2)))
    (hL : View.PiecesOf (deq i x0 x2) L) :
    View.PiecesOf (deq i x0 x2) ((⟨Rect.unit (s := S512x2560) ![o0, o1] S128x128.size inb', P⟩ : View.Piece (Elt Ideal) S512x2560 .bf16) :: L) := by
  refine ⟨fun (x : S128x128.Idx) => ?_, hL⟩
  show P x = deq i x0 x2 ((Rect.unit (s := S512x2560) ![o0, o1] S128x128.size inb').emb x)
  have ha' : (BitVec.ofNat 32 (o0 / 128)).toNat = o0 / 128 := by simp only [BitVec.toNat_ofNat]; omega
  have hb' : (BitVec.ofNat 32 (o1 / 128)).toNat = o1 / 128 := by simp only [BitVec.toNat_ofNat]; omega
  subst hP
  rw [View.readAt_eq_ld, View.readAt_eq_ld, harg1.read_unread, harg3.read_unread]
  unfold k0_pay3
  dsimp only
  rw [shapeCast_self]
  show (_ : EReal) * _ = _ * _
  have hx0 : (x 0).val < 128 := (x 0).isLt
  have hx1 : (x 1).val < 128 := (x 1).isLt
  refine congrArg₂ (· * ·) rfl (congrArg x0 ?_)
  funext q
  obtain rfl : q = 0 := Subsingleton.elim _ _
  apply Fin.ext
  show k0_off1 i _ _ 0 + 1 * 0 = ((i 0).val * 4 + (o0 + 1 * (x 0).val) / 128) * 20 + (o1 + 1 * (x 1).val) / 128
  rw [off1_eq i _ _ (by omega) (by omega), ha', hb']
  omega

set_option maxHeartbeats 2000000 in
/-- The 80 stores of the dequantised weight rows are blocks of `deq`. -/
theorem scratch_pieces (c : Dev nD) (i : grid0.Coords) (arg1 : Memref sig .tc .smem S1520 .f32) (harg1 : arg1.IsWhole)
    (arg3 : Memref sig .tc .vmem S512x2560 .fp8e4m3) (harg3 : arg3.IsWhole)
    (x0 : Vec Ideal S1520 .f32) (x2 : Vec Ideal S512x2560 .fp8e4m3) :
    View.PiecesOf (deq i x0 x2) (kernelRun0_A.sl.HS0_80 c i arg1 harg1 arg3 harg3 x0 x2) := by
  unfold kernelRun0_A.sl.HS0_80
  iterate 80 refine tile i harg1 harg3 x0 x2 _ _ _ _ _ (by decide) (by decide) (by decide) (by decide) (by rfl) ?_
  trivial

/-- What one grid point leaves in its output block: the gradient's rows times its dequantised weight rows. -/
def blockOut (i : grid0.Coords) (x0 : Vec Ideal S1520 .f32) (x1 : Vec Ideal S1536x2560 .bf16) (x2 : Vec Ideal S512x2560 .fp8e4m3) :
    Vec Ideal S1536x512 .bf16 :=
  fun j => (∑ k : Fin 2560, (x1 (ix2 (⟨(j 0).val, (j 0).isLt⟩ : Fin 1536) k) : EReal)
    * (deq i x0 x2 (ix2 (⟨(j 1).val, (j 1).isLt⟩ : Fin 512) k) : EReal) : EReal)

/-- One 512-row store of the product is a block of `blockOut`. -/
theorem prod_rows (i : grid0.Coords) {arg2 : Memref sig .tc .vmem S1536x2560 .bf16} (harg2 : arg2.IsWhole)
    (x0 : Vec Ideal S1520 .f32) (x1 : Vec Ideal S1536x2560 .bf16) (x2 : Vec Ideal S512x2560 .fp8e4m3)
    (o : Nat) (inb inb') (w : Vec Ideal S512x2560 .bf16) (hw : w = deq i x0 x2) (y : S512x512.Idx) :
    k0_pay99 (View.readAt (Elt Ideal) arg2.view (Rect.unit (s := S1536x2560) ![o, 0] S512x2560.size inb).toLoadRect (harg2.unread x1)) w y
      = blockOut i x0 x1 x2 ((Rect.unit (s := S1536x512) ![o, 0] S512x512.size inb').emb y) := by
  subst hw
  rw [View.readAt_eq_ld, harg2.read_unread]
  unfold k0_pay99
  dsimp only
  rw [shapeCast_self]
  obtain ⟨r, s, rfl⟩ : ∃ (r : Fin 512) (s : Fin 512), y = ix2 r s := ⟨y 0, y 1, by funext a; fin_cases a <;> rfl⟩
  have hm := Ideal.matmul_transposedRhs_apply (M := 512) (K := 2560) (N := 512) (φ₁ := .bf16) (φ₂ := .bf16) none
    (View.ld x1 (Rect.unit (s := S1536x2560) ![o, 0] S512x2560.size inb)) (deq i x0 x2) (constant S512x512 .f32 0x00000000#32) r s
  refine hm.trans ?_
  have hz : (constant (F := Ideal) S512x512 .f32 0x00000000#32 (ix2 r s) : EReal) = 0 := Ideal.ofBits_zero_f32
  rw [hz, zero_add]
  refine Finset.sum_congr rfl fun k _ => congrArg₂ (· * ·) (congrArg x1 ?_) (congrArg (deq i x0 x2) ?_)
  · funext a; apply Fin.ext
    fin_cases a
    · rfl
    · show 0 + 1 * k.val = k.val; omega
  · funext a; apply Fin.ext
    fin_cases a
    · show s.val = 0 + 1 * s.val; omega
    · rfl

/-- Stores that are blocks of `G` and together tile the scratch, loaded whole, read `G`. -/
theorem readCov_pieces {κ : Kind} {sp : Space} (v : View sig κ sp S512x2560 .bf16) (G : Vec Ideal S512x2560 .bf16)
    (L : List (View.Piece (Elt Ideal) S512x2560 .bf16)) (size : Fin 2 → Nat) (inb) (hL : View.PiecesOf G L) (hc : View.Piece.tiledL L size = true) :
    v.readCov L (Rect.unit (s := S512x2560) ![0, 0] S512x2560.size inb).toLoadRect = G := by
  rw [View.readCov_eq_canon']
  funext y
  refine (View.canon_apply_of_pieces G L hL.mem _ (View.cover_of_tiledL L size hc _)).trans (congrArg G ?_)
  funext a; apply Fin.ext
  fin_cases a
  · show 0 + 1 * (y 0).val = (y 0).val; omega
  · show 0 + 1 * (y 1).val = (y 1).val; omega

/-- What one grid point leaves in its output block, at the blocks it reads. -/
theorem out_A (c : Dev nD) (i : grid0.Coords) (arg1 : Memref sig .tc .smem S1520 .f32) (harg1 : arg1.IsWhole) (arg2 : Memref sig .tc .vmem S1536x2560 .bf16) (harg2 : arg2.IsWhole) (arg3 : Memref sig .tc .vmem S512x2560 .fp8e4m3) (harg3 : arg3.IsWhole) (arg4 : Memref sig .tc .vmem S1536x512 .bf16) (harg4 : arg4.IsWhole) (arg5 : Memref sig .tc .vmem S512x2560 .bf16) (harg5 : arg5.IsWhole)
    (x0 : Vec Ideal S1520 .f32) (x1 : Vec Ideal S1536x2560 .bf16) (x2 : Vec Ideal S512x2560 .fp8e4m3) (j : S1536x512.Idx) :
    out0_A_3 c i arg1 harg1 arg2 harg2 arg3 harg3 arg4 harg4 arg5 harg5 x0 x1 x2 j
      = blockOut i x0 x1 x2 j := by
  unfold out0_A_3
  rw [View.read_writes_eq_canon _ _ _ (cover0_A_3 c i arg1 harg1 arg2 harg2 arg3 harg3 arg4 harg4 arg5 harg5 x0 x1 x2)]
  refine View.canon_apply_of_pieces (blockOut i x0 x1 x2) _ ?_ j
    (cover0_A_3 c i arg1 harg1 arg2 harg2 arg3 harg3 arg4 harg4 arg5 harg5 x0 x1 x2 j)
  refine View.PiecesOf.mem (G := blockOut i x0 x1 x2) ?_
  unfold kernelRun0_A
  dsimp only
  refine ⟨fun y => prod_rows i harg2 x0 x1 x2 _ _ inb_S1536x512_S512x512_1024_0 _ ?_ y,
    fun y => prod_rows i harg2 x0 x1 x2 _ _ inb_S1536x512_S512x512_512_0 _ ?_ y,
    fun y => prod_rows i harg2 x0 x1 x2 _ _ inb_S1536x512_S512x512_0_0 _ ?_ y, trivial⟩
  all_goals exact readCov_pieces _ _ _ S128x128.size _ (scratch_pieces c i arg1 harg1 arg3 harg3 x0 x2) (by sl_kernel_rfl)
end Cert.KernelIdeal.Value
-- ==== Proof.Final.lean ====
/- What the kernel's result array holds after the run, element by element. -/
module
public import proofs.«01_k».proof.Proof.Grad
public import proofs.«01_k».proof.Proof.Block
public import Idealize.ShloMosaic.Lib.StableHlo.ReadAt
@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The four windows' block indices at every grid point. -/
theorem index_facts : ∀ t : Fin grid0.N, win0_0.index t (0 : Fin 1) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val ∧ (grid0.coords t 0).val = t.val :=
  (by decide +kernel)

/-- The scales as the region finds them: the flat table. -/
theorem V_scales (c : Dev nD) : V m c main_v0 = shapeCast S1520 (m ((c : Thread nD τ).loc main_arg2)) shapeCasts_S76x20_S1520 := by
  after_reads_simp
  rfl

/-- The gradient as the region finds it: the rows of the three batches one after another. -/
theorem V_rows (c : Dev nD) : V m c main_v1 = shapeCast S1536x2560 (m ((c : Thread nD τ).loc main_arg0)) shapeCasts_S3x512x2560_S1536x2560 := by
  after_reads_simp
  rfl

/-- The table of scales at a point, at a place: the scale of the tile with that row-major number. -/
theorem iblk0_apply (c : Dev nD) (t : Fin cfg0.N) (a : Fin 76) (b : Fin 20) (q : Fin 1520) (hq : q.val = a.val * 20 + b.val) :
    iblk m c 0 t (ValueIdx.ix1 q : S1520.Idx) = m ((c : Thread nD τ).loc main_arg2) (ValueIdx.ix2 a b : S76x20.Idx) := by
  obtain ⟨e0, -⟩ := index_facts t
  have h : iblk m c 0 t (ValueIdx.ix1 q : S1520.Idx) = V m c main_v0 (ValueIdx.ix1 q : S1520.Idx) := by
    show V m c main_v0 (((cfg0.win 0).blk t).view.emb (ValueIdx.ix1 q : S1520.Idx)) = _
    refine congrArg (V m c main_v0) (funext fun x => Fin.ext ?_)
    match x with
    | ⟨0, _⟩ => show win0_0.index t (0 : Fin 1) * 1520 + 1 * q.val = q.val; omega
  rw [h, V_scales]
  refine shapeCast_apply _ _ _ _ ?_
  refine (Shape.rowMajor_val_two _).trans (Eq.trans ?_ (Shape.rowMajor_val_one _).symm)
  exact hq.symm

/-- The gradient's rows at a point. -/
theorem iblk1_apply (c : Dev nD) (t : Fin cfg0.N) (r : Fin 1536) (k : Fin 2560) :
    iblk m c 1 t (ValueIdx.ix2 r k : S1536x2560.Idx)
      = m ((c : Thread nD τ).loc main_arg0) (ValueIdx.ix3 (⟨r.val / 512, by omega⟩ : Fin 3) (⟨r.val % 512, by omega⟩ : Fin 512) k : S3x512x2560.Idx) := by
  obtain ⟨-, e0, e1, -⟩ := index_facts t
  have h : iblk m c 1 t (ValueIdx.ix2 r k : S1536x2560.Idx) = V m c main_v1 (ValueIdx.ix2 r k : S1536x2560.Idx) := by
    show V m c main_v1 (((cfg0.win 1).blk t).view.emb (ValueIdx.ix2 r k : S1536x2560.Idx)) = _
    refine congrArg (V m c main_v1) (funext fun x => Fin.ext ?_)
    match x with
    | ⟨0, _⟩ => show win0_1.index t (0 : Fin 2) * 1536 + 1 * r.val = r.val; omega
    | ⟨1, _⟩ => show win0_1.index t (1 : Fin 2) * 2560 + 1 * k.val = k.val; omega
  rw [h, V_rows]
  refine shapeCast_apply _ _ _ _ ?_
  refine (Shape.rowMajor_val_three _).trans (Eq.trans ?_ (Shape.rowMajor_val_two _).symm)
  show (r.val / 512 * 512 + r.val % 512) * 2560 + k.val = r.val * 2560 + k.val
  omega

/-- The weight's codes at a point. -/
theorem iblk2_apply (c : Dev nD) (t : Fin cfg0.N) (s : Fin 512) (k : Fin 2560) (f : Fin 9728) (hf : f.val = t.val * 512 + s.val) :
    iblk m c 2 t (ValueIdx.ix2 s k : S512x2560.Idx) = m ((c : Thread nD τ).loc main_arg1) (ValueIdx.ix2 f k : S9728x2560.Idx) := by
  obtain ⟨-, -, -, e0, e1, -⟩ := index_facts t
  have h : iblk m c 2 t (ValueIdx.ix2 s k : S512x2560.Idx) = V m c main_arg1 (ValueIdx.ix2 f k : S9728x2560.Idx) := by
    show V m c main_arg1 (((cfg0.win 2).blk t).view.emb (ValueIdx.ix2 s k : S512x2560.Idx)) = _
    refine congrArg (V m c main_arg1) (funext fun x => Fin.ext ?_)
    match x with
    | ⟨0, _⟩ => show win0_2.index t (0 : Fin 2) * 512 + 1 * s.val = f.val; omega
    | ⟨1, _⟩ => show win0_2.index t (1 : Fin 2) * 2560 + 1 * k.val = k.val; omega
  rw [h, V_main_arg1]

/-- The whole result. -/
abbrev result (c : Dev nD) : Vec Ideal S1536x9728 .bf16 := fun j =>
  Cert.Dgrad.grad (m ((c : Thread nD τ).loc main_arg0)) (m ((c : Thread nD τ).loc main_arg1)) (m ((c : Thread nD τ).loc main_arg2)) (j 0) (j 1)

/-- What a point writes back is its block of the result. -/
theorem flushed_eq (c : Dev nD) (t : Fin cfg0.N) :
    (dats m 0 c).flushed 3 t = ((cfg0.win 3).blk t).view.read (Elt Ideal) (result m c) := by
  obtain ⟨-, -, -, -, -, e0, e1, et⟩ := index_facts t
  have ht : t.val < 19 := t.isLt
  rw [flushed3_A]
  funext j
  obtain ⟨r, s, rfl⟩ : ∃ (r : Fin 1536) (s : Fin 512), j = (ValueIdx.ix2 r s : S1536x512.Idx) :=
    ⟨j 0, j 1, by funext a; match a with
      | ⟨0, _⟩ => rfl
      | ⟨1, _⟩ => rfl⟩
  refine (out_A c (grid0.coords t) _ _ _ _ _ _ _ _ _ _ _ _ _ (ValueIdx.ix2 r s)).trans ?_
  have hf : t.val * 512 + s.val < 9728 := by omega
  have hemb : ((cfg0.win 3).blk t).view.emb (ValueIdx.ix2 r s : S1536x512.Idx) = (ValueIdx.ix2 r (⟨t.val * 512 + s.val, hf⟩ : Fin 9728) : S1536x9728.Idx) := by
    refine funext fun x => Fin.ext ?_
    match x with
    | ⟨0, _⟩ => show win0_3.index t (0 : Fin 2) * 1536 + 1 * r.val = r.val; omega
    | ⟨1, _⟩ => show win0_3.index t (1 : Fin 2) * 512 + 1 * s.val = t.val * 512 + s.val; omega
  refine Eq.trans ?_ (congrArg (result m c) hemb).symm
  refine Finset.sum_congr rfl fun k _ => ?_
  refine congrArg₂ (· * ·) (iblk1_apply m c t r k) (congrArg₂ (· * ·) (iblk2_apply m c t s k _ rfl) ?_)
  refine iblk0_apply m c t _ _ _ ?_
  show ((grid0.coords t 0).val * 4 + s.val / 128) * 20 + k.val / 128 = (t.val * 512 + s.val) / 128 * 20 + k.val / 128
  omega

/-- Every element of the result is in some point's block. -/
theorem covered (i : S1536x9728.Idx) : ∃ t : Fin cfg0.N, (cfg0.win 3).flush t = true ∧ i ∈ ((cfg0.win 3).blk t).view.set := by
  have h0 : (i 0).val < 1536 := (i 0).isLt
  have h1 : (i 1).val < 9728 := (i 1).isLt
  have ht : (i 1).val / 512 < cfg0.N := by show _ < 19; omega
  refine ⟨⟨(i 1).val / 512, ht⟩, flush0_3 _, ?_⟩
  obtain ⟨-, -, -, -, -, e0, e1, -⟩ := index_facts ⟨(i 1).val / 512, ht⟩
  show i ∈ ((View.whole main_v2).slice (win0_3.rect (⟨(i 1).val / 512, ht⟩ : Fin grid0.N))).set
  rw [View.set_slice_whole, Rect.mem_set_unit]
  intro a
  match a with
  | ⟨0, _⟩ =>
    show win0_3.index _ (0 : Fin 2) * 1536 ≤ (i 0).val ∧ (i 0).val < win0_3.index _ (0 : Fin 2) * 1536 + 1536
    rw [e0]; omega
  | ⟨1, _⟩ =>
    show win0_3.index _ (1 : Fin 2) * 512 ≤ (i 1).val ∧ (i 1).val < win0_3.index _ (1 : Fin 2) * 512 + 512
    rw [e1]; show (i 1).val / 512 * 512 ≤ _ ∧ _ < (i 1).val / 512 * 512 + 512; omega

/-- The result array after the run. -/
theorem final (c : Dev nD) : (dats m 0 c).arrAt 3 cfg0.N = result m c :=
  (dats m 0 c).arrAt_eq_of_cover 3 (result m c) (fun t _ => flushed_eq m c t) covered

end Cert.KernelIdeal.Value
end
-- ==== Proof.RefValue.lean ====
/- What the reference computes, element by element. -/
module
public import proofs.«01_k».proof.Proof.Grad
public import proofs.«01_k».proof.Proof.Gen.ReferenceIdeal.Value
public import Idealize.ShloMosaic.Lib.Tactic
@[expose] public section
set_option maxRecDepth 16384
noncomputable section
namespace Cert.ReferenceIdeal.Value
open Cert.ReferenceIdeal Cert.ReferenceIdeal.Gen Idealize.ShloMosaic Idealize.ShloMosaic.TcCoe Idealize.SL.Sem
open Idealize.ShloMosaic.ValueIdx

/-- The scales spread over their tiles, at an element of the weight. -/
theorem spread_apply (a2 : Vec Ideal S76x20 .bf16) (f : Fin 9728) (k : Fin 2560) :
    shapeCast S9728x2560 (broadcastTo S76x128x20x128 (shapeCast S76x1x20x1 (shapeCast S76x1x20x1 a2 shapeCasts_S76x20_S76x1x20x1)
      shapeCasts_S76x1x20x1_S76x1x20x1) broadcasts_S76x1x20x1_S76x128x20x128) shapeCasts_S76x128x20x128_S9728x2560 (ix2 f k)
      = a2 (ix2 (⟨f.val / 128, by omega⟩ : Fin 76) (⟨k.val / 128, by omega⟩ : Fin 20)) := by
  refine (shapeCast_apply _ _ _ (ix4 (⟨f.val / 128, by omega⟩ : Fin 76) (⟨f.val % 128, by omega⟩ : Fin 128) (⟨k.val / 128, by omega⟩ : Fin 20) (⟨k.val % 128, by omega⟩ : Fin 128)) ?_).trans ?_
  · refine (Shape.rowMajor_val_four _).trans (Eq.trans ?_ (Shape.rowMajor_val_two _).symm)
    show ((f.val / 128 * 128 + f.val % 128) * 20 + k.val / 128) * 128 + k.val % 128 = f.val * 2560 + k.val
    omega
  refine (broadcastTo_apply _ _ _ (ix4 (⟨f.val / 128, by omega⟩ : Fin 76) (0 : Fin 1) (⟨k.val / 128, by omega⟩ : Fin 20) (0 : Fin 1)) ?_).trans ?_
  · intro a
    fin_cases a <;> rfl
  rw [shapeCast_self]
  refine shapeCast_apply _ _ _ _ ?_
  refine (Shape.rowMajor_val_two _).trans (Eq.trans ?_ (Shape.rowMajor_val_four _).symm)
  show f.val / 128 * 20 + k.val / 128 = ((f.val / 128 * 1 + 0) * 20 + k.val / 128) * 1 + 0
  omega

/-- The reference's contraction, whose one contracted coordinate is the model width. -/
theorem contr_rank : dot_S3x512x2560_S9728x2560_S3x512x9728_2_1_01_0_n_n.contr.rank = 1 := rfl

theorem contr_size : dot_S3x512x2560_S9728x2560_S3x512x9728_2_1_01_0_n_n.contr.size ⟨0, by rw [contr_rank]; exact Nat.one_pos⟩ = 2560 := rfl

/-- The contraction index as its one coordinate. -/
def contr : dot_S3x512x2560_S9728x2560_S3x512x9728_2_1_01_0_n_n.contr.Idx ≃ Fin 2560 :=
  contrEquiv1 _ 2560 contr_rank contr_size

/-- The reference's product at an element: one sum over the model width. -/
theorem product_apply (lhs : FVec Ideal S3x512x2560 .bf16) (rhs : FVec Ideal S9728x2560 .bf16) (b : Fin 3) (s : Fin 512) (f : Fin 9728) :
    matmul dot_S3x512x2560_S9728x2560_S3x512x9728_2_1_01_0_n_n none lhs rhs (constant S3x512x9728 .f32 0x00000000#32) (ix3 b s f)
      = ∑ k : Fin 2560, (lhs (ix3 b s k) : EReal) * rhs (ix2 f k) := by
  refine (Ideal.matmul_constant_zero_apply (φ₁ := .bf16) (φ₂ := .bf16) _ none lhs rhs _).trans ?_
  rw [← Equiv.sum_comp contr.symm]
  refine Finset.sum_congr rfl fun k _ => ?_
  have hk := contrEquiv1_symm_val _ 2560 contr_rank contr_size k
  refine congrArg₂ (· * ·) (congrArg lhs ?_) (congrArg rhs ?_)
  · funext a; apply Fin.ext
    match a with
    | ⟨0, _⟩ => rfl
    | ⟨1, _⟩ => rfl
    | ⟨2, _⟩ => exact hk
  · funext a; apply Fin.ext
    match a with
    | ⟨0, _⟩ => rfl
    | ⟨1, _⟩ => exact hk

theorem ref_apply (a0 : Vec Ideal S3x512x2560 .bf16) (a1 : Vec Ideal S9728x2560 .fp8e4m3) (a2 : Vec Ideal S76x20 .f32)
    (r : Fin 1536) (f : Fin 9728) : G3 (F := Ideal) a0 a1 a2 (ix2 r f) = Cert.Dgrad.grad a0 a1 a2 r f := by
  unfold G3 k0_pay1
  refine (shapeCast_apply _ _ _ (ix3 (⟨r.val / 512, by omega⟩ : Fin 3) (⟨r.val % 512, by omega⟩ : Fin 512) f) ?_).trans ?_
  · refine (Shape.rowMajor_val_three _).trans (Eq.trans ?_ (Shape.rowMajor_val_two _).symm)
    show (r.val / 512 * 512 + r.val % 512) * 9728 + f.val = r.val * 9728 + f.val
    omega
  refine (product_apply _ _ _ _ _).trans (Finset.sum_congr rfl fun k _ => congrArg₂ (· * ·) rfl (congrArg₂ (· * ·) rfl ?_))
  exact spread_apply _ f k
end Cert.ReferenceIdeal.Value
end
-- ==== Proof.HeadScratch.lean ====
/- The two scratch buffers of the head's kernel after its first loop, independent of what they held before. -/
module

public import proofs.«01_k».proof.Proof.Gen.Head.Frame.Runs

@[expose] public section

-- membership in a rectangle of production extents (`View.cover_of_tiled`): the elaborator's structural look
-- recurses once per coordinate of the long axes
set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Writes that cover a whole memref leave contents that do not depend on what was there before. -/
theorem writes_of_cover {κ : Kind} {sp : Space} {s : Shape} {e : EltTy} {mr : Memref sig κ sp s e} (h : mr.IsWhole) (f : mr.view.ty.Contents (Elt F))
    (L : List (View.Piece (Elt F) s e)) (hc : ∀ y, ∃ p ∈ L, y ∈ p.1.set) : mr.view.writes (Elt F) f L = h.unread (View.canon L) :=
  h.eq_unread (View.read_writes_eq_canon mr.view f L hc)

/-- The first loop leaves the scratch of normalised rows with its own stores alone. -/
theorem writes_arg11 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (X : BufTy.Contents (Elt F) arg1.view.ty) (f) :
    arg11.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 X (Scf.trips k0_t1_loop.lb k0_t1_loop.ub k0_t1_loop.st)).1 = harg11.unread (View.canon (pb_k0_t1 (F := F) Variants.none c none i arg1 harg1 arg2 harg2 arg3 harg3 arg4 harg4 arg5 harg5 arg6 harg6 arg7 harg7 arg8 harg8 arg9 harg9 arg10 harg10 arg11 harg11 arg12 harg12 X (Scf.trips k0_t1_loop.lb k0_t1_loop.ub k0_t1_loop.st)).1) :=
  writes_of_cover harg11 f _ (fun y => View.cover_of_tiledL (s := S512x2560) _ S32x2560.size (by sl_kernel_rfl) y)

/-- The first loop and the store of the indices leave the scratch of columns with their own stores alone. -/
theorem writes_arg12 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (X : BufTy.Contents (Elt F) arg1.view.ty) (f) (w : Vec F S512x128 .f32) :
    arg12.view.writes (Elt F) f (⟨Rect.unit (s := S512x256) ![0, 128] S512x128.size inb_S512x256_S512x128_0_128, w⟩ :: (pb_k0_t1 (F := F) Variants.none c none i arg1 harg1 arg2 harg2 arg3 harg3 arg4 harg4 arg5 harg5 arg6 harg6 arg7 harg7 arg8 harg8 arg9 harg9 arg10 harg10 arg11 harg11 arg12 harg12 X (Scf.trips k0_t1_loop.lb k0_t1_loop.ub k0_t1_loop.st)).2) = harg12.unread (View.canon (⟨Rect.unit (s := S512x256) ![0, 128] S512x128.size inb_S512x256_S512x128_0_128, w⟩ :: (pb_k0_t1 (F := F) Variants.none c none i arg1 harg1 arg2 harg2 arg3 harg3 arg4 harg4 arg5 harg5 arg6 harg6 arg7 harg7 arg8 harg8 arg9 harg9 arg10 harg10 arg11 harg11 arg12 harg12 X (Scf.trips k0_t1_loop.lb k0_t1_loop.ub k0_t1_loop.st)).2)) :=
  writes_of_cover harg12 f _ (fun y => View.cover_of_tiledBy (s := S512x256) _ S32x128.size (by sl_kernel_rfl) y)

end Cert.Head.Gen
-- ==== Proof.HeadRunA.lean ====
/- One grid point of the head's kernel, run once (the first point, which clears the sums over the documents). -/
module

public import proofs.«01_k».proof.Proof.HeadScratch

@[expose] public section

-- membership in a rectangle of production extents (`View.cover_of_tiled`): the elaborator's structural look
-- recurses once per coordinate of the long axes
set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) :
    Σ' (L5 : List (View.Piece (Elt F) S1x512x2560 .bf16)), Σ' (L6 : List (View.Piece (Elt F) S1x512x2560 .fp8e5m2)), Σ' (L7 : List (View.Piece (Elt F) S1x512x20 .f32)), Σ' (L8 : List (View.Piece (Elt F) S1x2560 .f32)), { L9 : List (View.Piece (Elt F) S1x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d)) -∗ K ⟨⟩))
          ⊢ wp frame (wpE (defs₀ (F := F)) Variants.none c none) E (cc0_head_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_head_bwd_eq_skeleton]; unfold cc0_head_bwd_skel
    simp only [k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (X_arg1 : BufTy.Contents (Elt F) arg1.view.ty) (hrdF : BufTy.Contents (Elt F) arg11.view.ty) (hrdB : LoadRect S512x2560), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1 S32x2560.size (by sl_kernel_rfl) (hrdB.idx hrdJ))
    sl_exec (disch := first | sl_exact hc0)
    rw [writes_arg11, writes_arg12]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    iexists _, _; isplitr; swap; · iexact HS1
    ipureintro; rfl

end Cert.Head.Gen

end
-- ==== Proof.HeadRunB.lean ====
/- One grid point of the head's kernel, run once (a later point, which adds to the sums over the documents). -/
module

public import proofs.«01_k».proof.Proof.HeadRunA

@[expose] public section

-- membership in a rectangle of production extents (`View.cover_of_tiled`): the elaborator's structural look
-- recurses once per coordinate of the long axes
set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2), WITH the
    proof that on whole staging memrefs — the inputs' at their contents, the outputs it reads before covering (8, 9) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) :
    Σ' (L5 : List (View.Piece (Elt F) S1x512x2560 .bf16)), Σ' (L6 : List (View.Piece (Elt F) S1x512x2560 .fp8e5m2)), Σ' (L7 : List (View.Piece (Elt F) S1x512x20 .f32)), Σ' (L8 : List (View.Piece (Elt F) S1x2560 .f32)), { L9 : List (View.Piece (Elt F) S1x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d)) -∗ K ⟨⟩))
          ⊢ wp frame (wpE (defs₀ (F := F)) Variants.none c none) E (cc0_head_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_head_bwd_eq_skeleton]; unfold cc0_head_bwd_skel
    simp only [k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    have hrd0 : ∀ (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (X_arg1 : BufTy.Contents (Elt F) arg1.view.ty) (hrdF : BufTy.Contents (Elt F) arg11.view.ty) (hrdB : LoadRect S512x2560), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1 S32x2560.size (by sl_kernel_rfl) (hrdB.idx hrdJ))
    sl_exec (disch := first | sl_exact hc0)
    rw [writes_arg11, writes_arg12]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    iexists _, _; isplitr; swap; · iexact HS1
    ipureintro; rfl

end Cert.Head.Gen

end
-- ==== Proof.HeadFrame.lean ====
/- The whole run of the head's kernel: every grid point runs, and the launch ends with the outputs the points left. -/
module

public import proofs.«01_k».proof.Proof.HeadRunB
public import Idealize.ShloMosaic.Lib.Claim

@[expose] public section

-- membership in a rectangle of production extents (`View.cover_of_tiled`): the elaborator's structural look
-- recurses once per coordinate of the long axes
set_option maxRecDepth 16384

noncomputable section

namespace Cert.Head.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (320 stores of `S1x32x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x512x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1 S1x32x128.size (by sl_kernel_rfl) y

/-- What case A leaves in output 5's staging buffer: its pieces read back over junk. -/
def out0_A_5 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x512x2560 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1)

/-- Case A's pieces for output 6 tile its block (320 stores of `S1x32x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x512x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1 S1x32x128.size (by sl_kernel_rfl) y

/-- What case A leaves in output 6's staging buffer: its pieces read back over junk. -/
def out0_A_6 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x512x2560 .fp8e5m2 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1)

/-- Case A's pieces for output 7 tile its block (16 stores of `S1x32x20`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x512x20.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1 S1x32x20.size (by sl_kernel_rfl) y

/-- What case A leaves in output 7's staging buffer: its pieces read back over junk. -/
def out0_A_7 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x512x20 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1)

/-- Case A's pieces for output 8 tile its block (2 stores of `S1x2560`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1 S1x2560.size (by sl_kernel_rfl) y

/-- What case A leaves in output 8's staging buffer: its pieces read back over junk. -/
def out0_A_8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x2560 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1)

/-- Case A's pieces for output 9 tile its block (2 stores of `S1x2560`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1 S1x2560.size (by sl_kernel_rfl) y

/-- What case A leaves in output 9's staging buffer: its pieces read back over junk. -/
def out0_A_9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x2560 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1)

/-- Case B's pieces for output 5 tile its block (320 stores of `S1x32x128`, checked by the kernel's evaluation: Lib/Ring.lean `Piece.tiledL`, linear in the pieces, through a loop's `@[irreducible]` trip theorem too), so they cover it. -/
theorem cover0_B_5 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x512x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).1 S1x32x128.size (by sl_kernel_rfl) y

/-- What case B leaves in output 5's staging buffer: its pieces read back over junk. -/
def out0_B_5 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x512x2560 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).1)

/-- Case B's pieces for output 6 tile its block (320 stores of `S1x32x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x512x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.1 S1x32x128.size (by sl_kernel_rfl) y

/-- What case B leaves in output 6's staging buffer: its pieces read back over junk. -/
def out0_B_6 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x512x2560 .fp8e5m2 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.1)

/-- Case B's pieces for output 7 tile its block (16 stores of `S1x32x20`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x512x20.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.1 S1x32x20.size (by sl_kernel_rfl) y

/-- What case B leaves in output 7's staging buffer: its pieces read back over junk. -/
def out0_B_7 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x512x20 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.1)

/-- Case B's pieces for output 8 tile its block (1 store of `S1x2560`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.1 S1x2560.size (by sl_kernel_rfl) y

/-- What case B leaves in output 8's staging buffer: its pieces read back over junk. -/
def out0_B_8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x2560 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.1)

/-- Case B's pieces for output 9 tile its block (1 store of `S1x2560`, checked by the kernel's evaluation: Lib/Ring.lean `Piece.tiledL`, linear in the pieces, through a loop's `@[irreducible]` trip theorem too), so they cover it. -/
theorem cover0_B_9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.2.1 S1x2560.size (by sl_kernel_rfl) y

/-- What case B leaves in output 9's staging buffer: its pieces read back over junk. -/
def out0_B_9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x2560 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x2560 .bf16 × Vec F S1x512x2560 .fp8e5m2 × Vec F S1x512x20 .f32 × Vec F S1x2560 .f32 × Vec F S1x2560 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 3 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 3 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 3 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 3 = 0) (d) :
    (dats m 0 c).before 8 t d = (outsAt0 m c (t.val - 1) (Nat.lt_of_le_of_lt (Nat.sub_le _ _) t.isLt)).2.2.2.1 := by
  have hN : t.val < 3 := lt_of_lt_of_eq t.isLt (show cfg0.N = 3 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 3 = 0) (d) :
    (dats m 0 c).before 9 t d = (outsAt0 m c (t.val - 1) (Nat.lt_of_le_of_lt (Nat.sub_le _ _) t.isLt)).2.2.2.2 := by
  have hN : t.val < 3 := lt_of_lt_of_eq t.isLt (show cfg0.N = 3 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  have hN : t.val < 3 := lt_of_lt_of_eq t.isLt (show cfg0.N = 3 from N_0)
  by_cases h0 : t.val % 3 = 0
  · rw [outsAt0_A m c t h0]
    unfold out0_A_5 out0_A_6 out0_A_7 out0_A_8 out0_A_9; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, ⟨%e5, H5⟩, ⟨%e6, H6⟩, ⟨%e7, H7⟩, ⟨%e8, H8⟩, ⟨%e9, H9⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _)
  · rw [outsAt0_B m c t h0]
    simp only [before0_8_B m c t h0, before0_9_B m c t h0]
    unfold out0_B_5 out0_B_6 out0_B_7 out0_B_8 out0_B_9; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    iintro ⟨H0, H1, H2, H3, H4, ⟨%e5, H5⟩, ⟨%e6, H6⟩, ⟨%e7, H7⟩, ⟨%e8, H8⟩, ⟨%e9, H9⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Head`'s statement (Defs.lean) at any `F` — Proof.lean cites it at `Bits`:
    `theorem Cert.Proof.claim : Cert.Claim := ⟨Cert.Head.Gen.facts, fun m ρ _ => Cert.Head.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Head.Gen

end
-- ==== Proof.HeadScale.lean ====
/- The scale of one block of 128 values: the power of two next above the block's bound, found by comparisons with powers
   of two, is two to the floor of the binary logarithm plus one. -/
module
public import Idealize.ShloMosaic.PureOps.Ideal
public import Idealize.ShloMosaic.PureOps.Ideal.Laws
@[expose] public section
noncomputable section
namespace Cert.HeadMath
open Idealize.ShloMosaic

/-- Two to an integer power, as an extended real. -/
def pw (e : ℤ) : EReal := (((2 : ℝ) ^ e : ℝ) : EReal)

theorem pw_mul (a b : ℤ) : pw a * pw b = pw (a + b) := by
  unfold pw; rw [← EReal.coe_mul, zpow_add₀ (by norm_num)]

theorem pw_le {a b : ℤ} : pw a ≤ pw b ↔ a ≤ b := by
  unfold pw; rw [EReal.coe_le_coe_iff]; exact zpow_le_zpow_iff_right₀ (by norm_num)

theorem pw_zero : pw 0 = 1 := by unfold pw; norm_num

theorem pw_ne_zero (a : ℤ) : pw a ≠ 0 := by
  unfold pw
  have : (2 : ℝ) ^ a ≠ 0 := zpow_ne_zero _ (by norm_num)
  exact_mod_cast this

theorem one_div_pw (a : ℤ) : Ideal.div 1 (pw a) = pw (-a) := by
  unfold pw
  rw [Ideal.div_coe (zpow_ne_zero _ (by norm_num)), one_mul, zpow_neg, one_div]

theorem exp2_int (a : ℤ) : Ideal.exp2 ((a : ℝ) : EReal) = pw a := by
  show ((Real.rpow 2 (a : ℝ) : ℝ) : EReal) = _
  unfold pw
  exact congrArg _ (Real.rpow_intCast 2 a)

/-- One comparison: take the factor where the bound allows it. -/
def step (t s c : EReal) : EReal := if s * c ≤ t then s * c else s

/-- The scale found by comparisons. -/
def scale (t : EReal) : EReal :=
  if pw (-126) ≤ t then
    step t (step t (step t (step t (step t (step t (step t (step t (pw (-126)) (pw 127)) (pw 63)) (pw 32)) (pw 16)) (pw 8)) (pw 4)) (pw 2)) (pw 1) * pw 1
  else 1

/-- The exponent by the logarithm. -/
def expo (t : EReal) : EReal :=
  if t < pw (-126) then 0
  else min ((128 : ℝ) : EReal) (max ((-125 : ℝ) : EReal) (Ideal.liftRound Int.floor (Ideal.div (Ideal.log t) ((Real.log 2 : ℝ) : EReal)) + 1))

/-- What the search keeps: the power found is at most the bound, and either the bound is below the largest power still
    in reach, or the reach ends at the largest finite exponent. -/
def Inv (t s : EReal) (r : ℤ) : Prop :=
  ∃ e : ℤ, s = pw e ∧ -126 ≤ e ∧ e + r ≤ 127 ∧ pw e ≤ t ∧ (t < pw (e + r + 1) ∨ e + r = 127)

theorem step_inv (t s : EReal) (k r : ℤ) (hk : 0 ≤ k) (hr : k ≤ r + 1) (h : Inv t s (k + r)) : Inv t (step t s (pw k)) r := by
  obtain ⟨e, rfl, h0, h1, h2, h3⟩ := h
  unfold step
  rw [pw_mul]
  split
  · rename_i hc
    refine ⟨e + k, rfl, by omega, by omega, hc, ?_⟩
    rcases h3 with h3 | h3
    · left; rw [show e + k + r + 1 = e + (k + r) + 1 by ring]; exact h3
    · right; omega
  · rename_i hc
    refine ⟨e, rfl, h0, by omega, h2, ?_⟩
    left
    exact lt_of_lt_of_le (not_le.mp hc) (pw_le.mpr (by omega))

theorem log_two_pos : 0 < Real.log 2 := Real.log_pos (by norm_num)

theorem expo_eq (t : EReal) (e : ℤ) (h0 : -126 ≤ e) (h1 : e ≤ 127) (h2 : pw e ≤ t) (h3 : t < pw (e + 1) ∨ e = 127) :
    expo t = (((e + 1 : ℤ) : ℝ) : EReal) := by
  have ht : ¬ t < pw (-126) := not_lt.mpr ((pw_le.mpr h0).trans h2)
  unfold expo
  rw [if_neg ht]
  induction t using EReal.rec with
  | bot => exact absurd h2 (not_le.mpr (EReal.bot_lt_coe _))
  | top =>
    have he : e = 127 := by
      rcases h3 with h3 | h3
      · exact absurd h3 (not_lt.mpr le_top)
      · exact h3
    subst he
    have : Ideal.div (Ideal.log ⊤) ((Real.log 2 : ℝ) : EReal) = ⊤ := by
      rw [Ideal.div_coe log_two_pos.ne']
      show (⊤ : EReal) * _ = ⊤
      exact EReal.top_mul_coe_of_pos (by have := log_two_pos; positivity)
    rw [this]
    have h : (Ideal.liftRound Int.floor ⊤ + 1 : EReal) = ⊤ := by
      show (⊤ : EReal) + 1 = ⊤
      exact EReal.top_add_coe 1
    rw [h, max_eq_right le_top, min_eq_left le_top]
    norm_num
  | coe r =>
    unfold pw at h2 h3
    rw [EReal.coe_le_coe_iff] at h2
    rw [EReal.coe_lt_coe_iff] at h3
    have hr : 0 < r := lt_of_lt_of_le (zpow_pos (by norm_num) e) h2
    have hl : Ideal.log ((r : ℝ) : EReal) = ((Real.log r : ℝ) : EReal) := by
      show (if r ≤ 0 then _ else _) = _
      rw [if_neg (not_le.mpr hr)]
    rw [hl, Ideal.div_coe log_two_pos.ne', ← EReal.coe_mul, Ideal.liftRound_coe]
    have hlow : (e : ℝ) ≤ Real.log r * (1 / Real.log 2) := by
      rw [mul_one_div, le_div_iff₀ log_two_pos, ← Real.log_zpow]
      exact Real.log_le_log (zpow_pos (by norm_num) e) h2
    have hf : e ≤ ⌊Real.log r * (1 / Real.log 2)⌋ := Int.le_floor.mpr hlow
    have hcast : (((⌊Real.log r * (1 / Real.log 2)⌋ : ℝ) : EReal) + 1) = (((⌊Real.log r * (1 / Real.log 2)⌋ + 1 : ℤ) : ℝ) : EReal) := by
      push_cast; rfl
    rw [hcast, ← EReal.coe_strictMono.monotone.map_max, ← EReal.coe_strictMono.monotone.map_min]
    congr 1
    have h125 : ((-125 : ℤ) : ℝ) = -125 := by norm_num
    have h128 : ((128 : ℤ) : ℝ) = 128 := by norm_num
    rw [← h125, ← h128, ← Int.cast_max, ← Int.cast_min]
    congr 1
    rcases h3 with h3 | h3
    · have hup : ⌊Real.log r * (1 / Real.log 2)⌋ < e + 1 := by
        rw [Int.floor_lt, mul_one_div, div_lt_iff₀ log_two_pos, ← Real.log_zpow]
        exact Real.log_lt_log hr h3
      omega
    · omega

/-- The search and the logarithm name one power of two. -/
theorem scale_expo (t : EReal) : ∃ K : ℤ, scale t = pw K ∧ expo t = ((K : ℝ) : EReal) := by
  by_cases ht : pw (-126) ≤ t
  · have i0 : Inv t (pw (-126)) (127 + 126) := ⟨-126, rfl, by omega, by omega, ht, Or.inr (by omega)⟩
    have i1 := step_inv t _ 127 126 (by omega) (by omega) i0
    have i2 := step_inv t _ 63 63 (by omega) (by omega) i1
    have i3 := step_inv t _ 32 31 (by omega) (by omega) i2
    have i4 := step_inv t _ 16 15 (by omega) (by omega) i3
    have i5 := step_inv t _ 8 7 (by omega) (by omega) i4
    have i6 := step_inv t _ 4 3 (by omega) (by omega) i5
    have i7 := step_inv t _ 2 1 (by omega) (by omega) i6
    have i8 := step_inv t _ 1 0 (by omega) (by omega) i7
    obtain ⟨e, hs, h0, h1, h2, h3⟩ := i8
    refine ⟨e + 1, ?_, ?_⟩
    · unfold scale; rw [if_pos ht, hs, pw_mul]
    · refine expo_eq t e h0 (by omega) h2 ?_
      simpa using h3
  · refine ⟨0, ?_, ?_⟩
    · unfold scale; rw [if_neg ht, pw_zero]
    · unfold expo; rw [if_pos (not_le.mp ht)]; norm_num

/-- The two scales agree. -/
theorem exp2_expo (t : EReal) : Ideal.exp2 (expo t) = scale t := by
  obtain ⟨K, h1, h2⟩ := scale_expo t
  rw [h1, h2, exp2_int]

/-- The two reciprocals of the scale agree. -/
theorem exp2_neg_expo (t : EReal) : Ideal.exp2 (0 - expo t) = Ideal.div 1 (scale t) := by
  obtain ⟨K, h1, h2⟩ := scale_expo t
  rw [h1, h2, one_div_pw, zero_sub, ← EReal.coe_neg, ← exp2_int]
  norm_num

theorem bits_pw_neg126 : Ideal.ofBits .f32 0x00800000#32 = pw (-126) := by
  simp [Ideal.ofBits, Ideal.ieee, pw, -EReal.coe_mul, -EReal.coe_pow]; try norm_num
theorem bits_pw_127 : Ideal.ofBits .f32 0x7F000000#32 = pw 127 := by
  simp [Ideal.ofBits, Ideal.ieee, pw, -EReal.coe_mul, -EReal.coe_pow]; try norm_num
theorem bits_pw_63 : Ideal.ofBits .f32 0x5F000000#32 = pw 63 := by
  simp [Ideal.ofBits, Ideal.ieee, pw, -EReal.coe_mul, -EReal.coe_pow]; try norm_num
theorem bits_pw_32 : Ideal.ofBits .f32 0x4F800000#32 = pw 32 := by
  simp [Ideal.ofBits, Ideal.ieee, pw, -EReal.coe_mul, -EReal.coe_pow]; try norm_num
theorem bits_pw_16 : Ideal.ofBits .f32 0x47800000#32 = pw 16 := by
  simp [Ideal.ofBits, Ideal.ieee, pw, -EReal.coe_mul, -EReal.coe_pow]; try norm_num
theorem bits_pw_8 : Ideal.ofBits .f32 0x43800000#32 = pw 8 := by
  simp [Ideal.ofBits, Ideal.ieee, pw, -EReal.coe_mul, -EReal.coe_pow]; try norm_num
theorem bits_pw_4 : Ideal.ofBits .f32 0x41800000#32 = pw 4 := by
  simp [Ideal.ofBits, Ideal.ieee, pw, -EReal.coe_mul, -EReal.coe_pow]; try norm_num
theorem bits_pw_2 : Ideal.ofBits .f32 0x40800000#32 = pw 2 := by
  simp [Ideal.ofBits, Ideal.ieee, pw, -EReal.coe_mul, -EReal.coe_pow]; try norm_num
theorem bits_pw_1 : Ideal.ofBits .f32 0x40000000#32 = pw 1 := by
  simp [Ideal.ofBits, Ideal.ieee, pw, -EReal.coe_mul, -EReal.coe_pow]; try norm_num
theorem bits_one : Ideal.ofBits .f32 0x3F800000#32 = 1 := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_neg125 : Ideal.ofBits .f32 0xC2FA0000#32 = ((-125 : ℝ) : EReal) := by
  simp [Ideal.ofBits, Ideal.ieee, -EReal.coe_mul]; norm_num
theorem bits_2560 : Ideal.ofBits .f32 0x45200000#32 = ((2560 : ℝ) : EReal) := by
  simp [Ideal.ofBits, Ideal.ieee, -EReal.coe_mul]; norm_num
theorem bits_eps : ∃ eps : ℝ, 0 < eps ∧ Ideal.ofBits .f32 0x3727C5AC#32 = ((eps : ℝ) : EReal) := by
  refine ⟨_, ?_, by simp [Ideal.ofBits, Ideal.ieee, -EReal.coe_mul]; rfl⟩
  norm_num
end Cert.HeadMath
-- ==== Proof.HeadTile.lean ====
/- One block of 32 rows and 128 columns of the token gradient: its codes, its scales and its dequantised values, read at
   an index. -/
module
public import proofs.«01_k».proof.Proof.Gen.HeadIdeal.Skeleton
public import Idealize.ShloMosaic.Lib.Pointwise
public import proofs.«01_k».proof.Proof.HeadScale
@[expose] public section
set_option maxRecDepth 16384
noncomputable section
namespace Cert.HeadIdeal.Value
open Cert.HeadIdeal Cert.HeadIdeal.Gen Idealize.ShloMosaic Idealize.ShloMosaic.TcCoe
open Cert.HeadMath

/-- The block's bound over its rows, in every lane. -/
def boundV (v : FVec Ideal S32x128 .f32) : FVec Ideal S32x128 .f32 :=
  mulf (broadcastTo S32x128 (shapeCast S32x1 (shapeCast S32x1
    (multiReduction .maximumf [1] S32 (absf v) 0xFF800000#32 reduces_S32x128_S32 (.inl rfl) rfl)
    shapeCasts_S32_S32x1) shapeCasts_S32x1_S32x1) broadcasts_S32x1_S32x128) (broadcast S32x128 (Scalar.ofBits .f32 0x37924925#32))

/-- One comparison of the search, on a block. -/
def stepV (t s : FVec Ideal S32x128 .f32) (c : BitVec 32) : FVec Ideal S32x128 .f32 :=
  select (cmpf .oge t (mulf s (broadcast S32x128 (Scalar.ofBits .f32 c)))) (mulf s (broadcast S32x128 (Scalar.ofBits .f32 c))) s

/-- The block's scales, in every lane. -/
def scaleV (t : FVec Ideal S32x128 .f32) : FVec Ideal S32x128 .f32 :=
  select (cmpf .oge t (broadcast S32x128 (Scalar.ofBits .f32 0x00800000#32)))
    (mulf (stepV t (stepV t (stepV t (stepV t (stepV t (stepV t (stepV t (stepV t
      (broadcast S32x128 (Scalar.ofBits .f32 0x00800000#32)) 0x7F000000#32) 0x5F000000#32) 0x4F800000#32) 0x47800000#32)
      0x43800000#32) 0x41800000#32) 0x40800000#32) 0x40000000#32) (broadcast S32x128 (Scalar.ofBits .f32 0x40000000#32)))
    (broadcast S32x128 (Scalar.ofBits .f32 0x3F800000#32))

/-- The block's codes. -/
def codesV (v : FVec Ideal S32x128 .f32) : FVec Ideal S32x128 .fp8e5m2 :=
  truncf .fp8e5m2 (minimumf (broadcast S32x128 (Scalar.ofBits .f32 0x47600000#32))
    (maximumf (broadcast S32x128 (Scalar.ofBits .f32 0xC7600000#32))
      (mulf v (divf (broadcast S32x128 (Scalar.ofBits .f32 0x3F800000#32)) (scaleV (boundV v)))))) bitsLt_fp8e5m2_f32

/-- The block's dequantised values. -/
def dhwV (v : FVec Ideal S32x128 .f32) : FVec Ideal S32x128 .bf16 :=
  mulf (extf .bf16 (codesV v) bitsLt_fp8e5m2_bf16) (truncf .bf16 (scaleV (boundV v)) bitsLt_bf16_f32)

theorem slices_cols (c : Nat) (hc : c + 128 ≤ 2560) : S32x2560.Slices ![0, c] S32x128 := by
  refine ⟨rfl, fun a => ?_⟩
  match a with
  | ⟨0, _⟩ => exact (by decide : 0 + 32 ≤ 32)
  | ⟨1, _⟩ => exact hc

/-- The columns of the block that begins at column `c`. -/
def colsV (D : FVec Ideal S32x2560 .f32) (c : Nat) (hc : c + 128 ≤ 2560) : FVec Ideal S32x128 .f32 :=
  extractStridedSlice S32x128 ![0, c] D (slices_cols c hc)

/-- The bound of 128 values. -/
def bound (v : Fin 128 → EReal) : EReal :=
  Finset.univ.fold max (Ideal.ofBits .f32 0xFF800000#32) (fun l => max (v l) (-(v l))) * Ideal.ofBits .f32 0x37924925#32

/-- The code of one value. -/
def code (v : Fin 128 → EReal) (l : Fin 128) : EReal :=
  min (Ideal.ofBits .f32 0x47600000#32) (max (Ideal.ofBits .f32 0xC7600000#32) (v l * Ideal.div 1 (scale (bound v))))

theorem boundV_at (v : FVec Ideal S32x128 .f32) (r : Fin 32) (l : Fin 128) :
    boundV v (ix2 r l) = bound (fun l => v (ix2 r l)) := by
  pointwise [boundV, bound]
  rfl

theorem stepV_at (t s : FVec Ideal S32x128 .f32) (c : BitVec 32) (r : Fin 32) (l : Fin 128) :
    stepV t s c (ix2 r l) = step (t (ix2 r l)) (s (ix2 r l)) (Ideal.ofBits .f32 c) := by
  pointwise [stepV, step]

theorem scaleV_at (t : FVec Ideal S32x128 .f32) (r : Fin 32) (l : Fin 128) :
    scaleV t (ix2 r l) = scale (t (ix2 r l)) := by
  pointwise [scaleV, scale]
  simp only [stepV_at, bits_pw_neg126, bits_pw_127, bits_pw_63, bits_pw_32, bits_pw_16, bits_pw_8, bits_pw_4, bits_pw_2, bits_pw_1]
  rfl

theorem codesV_at (v : FVec Ideal S32x128 .f32) (r : Fin 32) (l : Fin 128) :
    codesV v (ix2 r l) = code (fun l => v (ix2 r l)) l := by
  pointwise [codesV, code]
  rw [scaleV_at, boundV_at]

theorem dhwV_at (v : FVec Ideal S32x128 .f32) (r : Fin 32) (l : Fin 128) :
    dhwV v (ix2 r l) = code (fun l => v (ix2 r l)) l * scale (bound (fun l => v (ix2 r l))) := by
  pointwise [dhwV]
  rw [scaleV_at, boundV_at, codesV_at]

theorem colsV_at (D : FVec Ideal S32x2560 .f32) (c : Nat) (hc : c + 128 ≤ 2560) (r : Fin 32) (l : Fin 128) :
    colsV D c hc (ix2 r l) = D (ix2 r ⟨c + l.val, by omega⟩) := by
  pointwise [colsV]

end Cert.HeadIdeal.Value
-- ==== Proof.HeadTrip.lean ====
module
public import proofs.«01_k».proof.Proof.Gen.HeadIdeal.Loops
public import proofs.«01_k».proof.Proof.HeadTile
public import Idealize.ShloMosaic.Lib.Tactic
public import Idealize.ShloMosaic.Lib.MatmulPlain
public import Idealize.ShloMosaic.Lib.Pipeline.ReadBack
@[expose] public section
set_option maxRecDepth 16384
noncomputable section
namespace Cert.HeadIdeal.Value
open Cert.HeadIdeal Cert.HeadIdeal.Gen Idealize.ShloMosaic Idealize.ShloMosaic.TcCoe Idealize.SL.Sem
open Cert.HeadMath

theorem row_toNat (k : Fin k0_t2_loop.trips) : k0_off7 k 1 = 32 * k.val := by
  have hk : k.val < 16 := Nat.lt_of_lt_of_le k.isLt k0_t2_abs.2.1
  unfold k0_off7
  simp [Scf.iv, Scalar.muli, Scalar.indexCast]
  show ((BitVec.ofNat 32 k.val) * 32#32 : BitVec 32).toNat = _
  simp only [BitVec.toNat_mul, BitVec.toNat_ofNat]
  omega

/-- The 128 values of the block of row `r` that holds column `q`. -/
def blkRow (D : FVec Ideal S32x2560 .f32) (r : Fin 32) (q : Fin 2560) : Fin 128 → EReal :=
  fun l => D (ix2 r ⟨128 * (q.val / 128) + l.val, by have := q.isLt; have := l.isLt; omega⟩)

/-- The code of row `r`, column `q` of a chunk of the gradient. -/
def codeAt (D : FVec Ideal S32x2560 .f32) (r : Fin 32) (q : Fin 2560) : EReal :=
  code (blkRow D r q) ⟨q.val % 128, Nat.mod_lt _ (by decide)⟩

/-- The scale of row `r`, column `q` of a chunk of the gradient. -/
def scaleAt (D : FVec Ideal S32x2560 .f32) (r : Fin 32) (q : Fin 2560) : EReal :=
  scale (bound (blkRow D r q))

/-- A chunk of the gradient over the tokens, from the documents' rows and the chunk's indices, reciprocal deviations and
    normalised rows. -/
def dhV (v57 : FVec Ideal S8x2560 .f32) (v61 : FVec Ideal S8x1 .f32) (ids rs : Vec Ideal S32x1 .f32) (xh : Vec Ideal S32x2560 .f32) :
    FVec Ideal S32x2560 .f32 :=
  k0_pay14 v57 v61 ids rs xh (k0_pay10 v57 ids) (k0_pay11 v61 ids) (k0_pay12 ids) (k0_pay13 v57)

/-- The place, in a whole array of codes, of an element of a 32 × 128 store. -/
theorem emb_at (k : Fin k0_t2_loop.trips) (off : Fin 3 → Nat) (inb) (c : Nat) (hoff : off = ![0, k0_off7 k 1, c])
    (a : Fin 1) (r : Fin 32) (l : Fin 128) :
    ((Rect.unit (s := S1x512x2560) off S1x32x128.size inb).emb (ix3 a r l) 1).val = 32 * k.val + r.val
      ∧ ((Rect.unit (s := S1x512x2560) off S1x32x128.size inb).emb (ix3 a r l) 2).val = c + l.val := by
  subst hoff
  constructor
  · show k0_off7 k 1 + 1 * r.val = _
    rw [row_toNat]; omega
  · show c + 1 * l.val = _
    omega

theorem blkRow_eq (D : FVec Ideal S32x2560 .f32) (c : Nat) (hm : c % 128 = 0) (hc : c + 128 ≤ 2560) (r : Fin 32) (l : Fin 128)
    (q : Fin 2560) (hq : q.val = c + l.val) :
    (fun l => colsV D c hc (ix2 r l) : Fin 128 → EReal) = blkRow D r q ∧ l = ⟨q.val % 128, Nat.mod_lt _ (by decide)⟩ := by
  have hl := l.isLt
  constructor
  · funext l'
    rw [colsV_at]
    unfold blkRow
    congr 2
    apply Fin.ext
    show c + l'.val = 128 * (q.val / 128) + l'.val
    omega
  · apply Fin.ext
    show l.val = q.val % 128
    omega

/-- One 32 × 128 store of dequantised values is a block of `G`. -/
theorem tile (D : FVec Ideal S32x2560 .f32) (k : Fin k0_t2_loop.trips) (G : Vec Ideal S1x512x2560 .bf16)
    (hG : ∀ (y : S1x512x2560.Idx) (r : Fin 32), (y 1).val = 32 * k.val + r.val →
      (G y : EReal) = codeAt D r ⟨(y 2).val, (y 2).isLt⟩ * scaleAt D r ⟨(y 2).val, (y 2).isLt⟩)
    (off : Fin 3 → Nat) (inb) (c : Nat) (hoff : off = ![0, k0_off7 k 1, c]) (hm : c % 128 = 0) (hc : c + 128 ≤ 2560)
    (P : FVec Ideal S1x32x128 .bf16) (L : List (View.Piece (Elt Ideal) S1x512x2560 .bf16))
    (hP : P = shapeCast S1x32x128 (dhwV (colsV D c hc)) shapeCasts_S32x128_S1x32x128)
    (hL : View.PiecesOf G L) :
    View.PiecesOf G ((⟨Rect.unit (s := S1x512x2560) off S1x32x128.size inb, P⟩ : View.Piece (Elt Ideal) S1x512x2560 .bf16) :: L) := by
  refine ⟨fun (x : S1x32x128.Idx) => ?_, hL⟩
  show P x = G ((Rect.unit (s := S1x512x2560) off S1x32x128.size inb).emb x)
  obtain ⟨a, r, l, rfl⟩ : ∃ (a : Fin 1) (r : Fin 32) (l : Fin 128), x = ix3 a r l := ⟨x 0, x 1, x 2, by funext a; fin_cases a <;> rfl⟩
  obtain ⟨h1, h2⟩ := emb_at k off inb c hoff a r l
  obtain ⟨hb, hl⟩ := blkRow_eq D c hm hc r l ⟨_, ((Rect.unit (s := S1x512x2560) off S1x32x128.size inb).emb (ix3 a r l) 2).isLt⟩ h2
  rw [hG _ r h1, hP]
  have e : shapeCast S1x32x128 (dhwV (colsV D c hc)) shapeCasts_S32x128_S1x32x128 (ix3 a r l) = dhwV (colsV D c hc) (ix2 r l) := by
    pointwise
  rw [e, dhwV_at, hb]
  unfold codeAt scaleAt
  rw [← hl]

/-- One 32 × 128 store of codes is a block of `G`. -/
theorem tile_codes (D : FVec Ideal S32x2560 .f32) (k : Fin k0_t2_loop.trips) (G : Vec Ideal S1x512x2560 .fp8e5m2)
    (hG : ∀ (y : S1x512x2560.Idx) (r : Fin 32), (y 1).val = 32 * k.val + r.val → (G y : EReal) = codeAt D r ⟨(y 2).val, (y 2).isLt⟩)
    (off : Fin 3 → Nat) (inb) (c : Nat) (hoff : off = ![0, k0_off7 k 1, c]) (hm : c % 128 = 0) (hc : c + 128 ≤ 2560)
    (P : FVec Ideal S1x32x128 .fp8e5m2) (L : List (View.Piece (Elt Ideal) S1x512x2560 .fp8e5m2))
    (hP : P = shapeCast S1x32x128 (codesV (colsV D c hc)) shapeCasts_S32x128_S1x32x128)
    (hL : View.PiecesOf G L) :
    View.PiecesOf G ((⟨Rect.unit (s := S1x512x2560) off S1x32x128.size inb, P⟩ : View.Piece (Elt Ideal) S1x512x2560 .fp8e5m2) :: L) := by
  refine ⟨fun (x : S1x32x128.Idx) => ?_, hL⟩
  show P x = G ((Rect.unit (s := S1x512x2560) off S1x32x128.size inb).emb x)
  obtain ⟨a, r, l, rfl⟩ : ∃ (a : Fin 1) (r : Fin 32) (l : Fin 128), x = ix3 a r l := ⟨x 0, x 1, x 2, by funext a; fin_cases a <;> rfl⟩
  obtain ⟨h1, h2⟩ := emb_at k off inb c hoff a r l
  obtain ⟨hb, hl⟩ := blkRow_eq D c hm hc r l ⟨_, ((Rect.unit (s := S1x512x2560) off S1x32x128.size inb).emb (ix3 a r l) 2).isLt⟩ h2
  rw [hG _ r h1, hP]
  have e : shapeCast S1x32x128 (codesV (colsV D c hc)) shapeCasts_S32x128_S1x32x128 (ix3 a r l) = codesV (colsV D c hc) (ix2 r l) := by
    pointwise
  rw [e, codesV_at, hb]
  unfold codeAt
  rw [← hl]

/-- The first lane of a block. -/
def firstCol (v : FVec Ideal S32x128 .f32) : FVec Ideal S32x1 .f32 := extractStridedSlice S32x1 ![0, 0] v slices_S32x128_o0_0_S32x1

theorem firstCol_at (v : FVec Ideal S32x128 .f32) (r : Fin 32) (a : Fin 1) : firstCol v (ix2 r a) = v (ix2 r 0) := by
  pointwise [firstCol]

theorem stack_at (w : Fin 20 → FVec Ideal S32x128 .f32) (a : Fin 1) (r : Fin 32) (j : Fin 20) :
    k0_pay6 (k0_pay5 (firstCol (w 0)) (firstCol (w 1)) (firstCol (w 2)) (firstCol (w 3)) (firstCol (w 4)) (firstCol (w 5)) (firstCol (w 6)) (firstCol (w 7)) (firstCol (w 8)) (firstCol (w 9)) (firstCol (w 10)) (firstCol (w 11)) (firstCol (w 12)) (firstCol (w 13)) (firstCol (w 14)) (firstCol (w 15)) (firstCol (w 16)) (firstCol (w 17)) (firstCol (w 18)) (w 19)) (ix3 a r j) = w j (ix2 r 0) := by
  have e : ∀ v : FVec Ideal S32x20 .f32, k0_pay6 v (ix3 a r j) = v (ix2 r j) := fun v => by pointwise [k0_pay6]
  rw [e, ← firstCol_at (w j) r 0]
  exact concatenate_ofFn_unit_apply (t := S32x20) (s₁ := S32x1) 1 (fun n : Fin 20 => firstCol (w n)) concatenates_S32x1_S32x1_S32x1_S32x1_S32x1_S32x1_S32x1_S32x1_S32x1_S32x1_S32x1_S32x1_S32x1_S32x1_S32x1_S32x1_S32x1_S32x1_S32x1_S32x1_S32x20_d1 rfl rfl (ix2 r j) j rfl (ix2 r 0)
    (fun b hb => by
      match b with
      | ⟨0, _⟩ => rfl
      | ⟨1, _⟩ => exact absurd rfl hb)

/-- The scales of the block of columns `j`, in every lane. -/
def blkScale (D : FVec Ideal S32x2560 .f32) (j : Fin 20) : FVec Ideal S32x128 .f32 :=
  scaleV (boundV (colsV D (128 * j.val) (by have := j.isLt; omega)))

theorem blkScale_at (D : FVec Ideal S32x2560 .f32) (j : Fin 20) (r : Fin 32) (l : Fin 128) (q : Fin 2560) (hq : q.val / 128 = j.val) :
    blkScale D j (ix2 r l) = scaleAt D r q := by
  unfold blkScale scaleAt
  rw [scaleV_at, boundV_at]
  refine congrArg (fun v => scale (bound v)) ?_
  funext l'
  rw [colsV_at]
  unfold blkRow
  congr 2
  apply Fin.ext
  show 128 * j.val + l'.val = 128 * (q.val / 128) + l'.val
  rw [hq]

/-- One trip's stores of dequantised values. -/
theorem trip_dhw (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole)
  (v57 : FVec Ideal S8x2560 .f32) (v61 : FVec Ideal S8x1 .f32) (X11 : BufTy.Contents (Elt Ideal) arg11.view.ty) (X12 : BufTy.Contents (Elt Ideal) arg12.view.ty) (k : Fin k0_t2_loop.trips)
  (D : FVec Ideal S32x2560 .f32) (G : Vec Ideal S1x512x2560 .bf16)
    (hG : ∀ (y : S1x512x2560.Idx) (r : Fin 32), (y 1).val = 32 * k.val + r.val → (G y : EReal) = codeAt D r ⟨(y 2).val, (y 2).isLt⟩ * scaleAt D r ⟨(y 2).val, (y 2).isLt⟩)
   (hD : D = dhV v57 v61
      (View.readAt (Elt Ideal) arg12.view (Rect.unit (s := S512x256) (k0_off4 k) S32x1.size (k0_off4_inb k)).toLoadRect X12)
      (View.readAt (Elt Ideal) arg12.view (Rect.unit (s := S512x256) (k0_off5 k) S32x1.size (k0_off5_inb k)).toLoadRect X12)
      (View.readAt (Elt Ideal) arg11.view (Rect.unit (s := S512x2560) (k0_off6 k) S32x2560.size (k0_off6_inb k)).toLoadRect X11)) :
  View.PiecesOf G (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 X11 X12 k).1 := by
  unfold tripL_k0_t2 trip_k0_t2
  dsimp only
  subst hD
  iterate 20 refine tile _ k G hG _ _ _ (by rfl) (by decide) (by decide) _ _ (by rfl) ?_
  trivial

/-- One trip's stores of codes. -/
theorem trip_codes (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole)
  (v57 : FVec Ideal S8x2560 .f32) (v61 : FVec Ideal S8x1 .f32) (X11 : BufTy.Contents (Elt Ideal) arg11.view.ty) (X12 : BufTy.Contents (Elt Ideal) arg12.view.ty) (k : Fin k0_t2_loop.trips)
  (D : FVec Ideal S32x2560 .f32) (G : Vec Ideal S1x512x2560 .fp8e5m2)
    (hG : ∀ (y : S1x512x2560.Idx) (r : Fin 32), (y 1).val = 32 * k.val + r.val → (G y : EReal) = codeAt D r ⟨(y 2).val, (y 2).isLt⟩)
   (hD : D = dhV v57 v61
      (View.readAt (Elt Ideal) arg12.view (Rect.unit (s := S512x256) (k0_off4 k) S32x1.size (k0_off4_inb k)).toLoadRect X12)
      (View.readAt (Elt Ideal) arg12.view (Rect.unit (s := S512x256) (k0_off5 k) S32x1.size (k0_off5_inb k)).toLoadRect X12)
      (View.readAt (Elt Ideal) arg11.view (Rect.unit (s := S512x2560) (k0_off6 k) S32x2560.size (k0_off6_inb k)).toLoadRect X11)) :
  View.PiecesOf G (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 X11 X12 k).2.1 := by
  unfold tripL_k0_t2 trip_k0_t2
  dsimp only
  subst hD
  iterate 20 refine tile_codes _ k G hG _ _ _ (by rfl) (by decide) (by decide) _ _ (by rfl) ?_
  trivial

/-- One trip's store of scales. -/
theorem trip_scales (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole)
  (v57 : FVec Ideal S8x2560 .f32) (v61 : FVec Ideal S8x1 .f32) (X11 : BufTy.Contents (Elt Ideal) arg11.view.ty) (X12 : BufTy.Contents (Elt Ideal) arg12.view.ty) (k : Fin k0_t2_loop.trips)
  (D : FVec Ideal S32x2560 .f32) (G : Vec Ideal S1x512x20 .f32)
    (hG : ∀ (y : S1x512x20.Idx) (r : Fin 32) (q : Fin 2560), (y 1).val = 32 * k.val + r.val → q.val / 128 = (y 2).val → (G y : EReal) = scaleAt D r q)
   (hD : D = dhV v57 v61
      (View.readAt (Elt Ideal) arg12.view (Rect.unit (s := S512x256) (k0_off4 k) S32x1.size (k0_off4_inb k)).toLoadRect X12)
      (View.readAt (Elt Ideal) arg12.view (Rect.unit (s := S512x256) (k0_off5 k) S32x1.size (k0_off5_inb k)).toLoadRect X12)
      (View.readAt (Elt Ideal) arg11.view (Rect.unit (s := S512x2560) (k0_off6 k) S32x2560.size (k0_off6_inb k)).toLoadRect X11)) :
  View.PiecesOf G (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 X11 X12 k).2.2 := by
  unfold tripL_k0_t2 trip_k0_t2
  dsimp only
  subst hD
  refine ⟨fun (x : S1x32x20.Idx) => ?_, trivial⟩
  dsimp only
  obtain ⟨a, r, j, rfl⟩ : ∃ (a : Fin 1) (r : Fin 32) (j : Fin 20), x = ix3 a r j := ⟨x 0, x 1, x 2, by funext a; fin_cases a <;> rfl⟩
  rw [show trip_k0_t2.sl.v1832 arg11 arg12 v57 v61 X11 X12 k = k0_pay5 (firstCol (blkScale (dhV v57 v61 _ _ _) 0)) (firstCol (blkScale (dhV v57 v61 _ _ _) 1)) (firstCol (blkScale (dhV v57 v61 _ _ _) 2)) (firstCol (blkScale (dhV v57 v61 _ _ _) 3)) (firstCol (blkScale (dhV v57 v61 _ _ _) 4)) (firstCol (blkScale (dhV v57 v61 _ _ _) 5)) (firstCol (blkScale (dhV v57 v61 _ _ _) 6)) (firstCol (blkScale (dhV v57 v61 _ _ _) 7)) (firstCol (blkScale (dhV v57 v61 _ _ _) 8)) (firstCol (blkScale (dhV v57 v61 _ _ _) 9)) (firstCol (blkScale (dhV v57 v61 _ _ _) 10)) (firstCol (blkScale (dhV v57 v61 _ _ _) 11)) (firstCol (blkScale (dhV v57 v61 _ _ _) 12)) (firstCol (blkScale (dhV v57 v61 _ _ _) 13)) (firstCol (blkScale (dhV v57 v61 _ _ _) 14)) (firstCol (blkScale (dhV v57 v61 _ _ _) 15)) (firstCol (blkScale (dhV v57 v61 _ _ _) 16)) (firstCol (blkScale (dhV v57 v61 _ _ _) 17)) (firstCol (blkScale (dhV v57 v61 _ _ _) 18)) (blkScale (dhV v57 v61 _ _ _) 19) from rfl, stack_at]
  have hj := j.isLt
  rw [hG _ r ⟨128 * j.val, by omega⟩ ?_ ?_, blkScale_at _ j r 0 ⟨128 * j.val, by omega⟩ (by show 128 * j.val / 128 = _; omega)]
  · rfl
  · show k0_off7 k 1 + 1 * r.val = _
    rw [row_toNat]; omega
  · show 128 * j.val / 128 = 0 + 1 * j.val
    omega
end Cert.HeadIdeal.Value
-- ==== Proof.HeadMath.lean ====
/- The backward pass of the embedding head as functions of extended reals, one batch row at a time: layer norm, pooling by
   document, the gradient of the normalised pooled vector, and the token gradient that is quantised. Two forms of the
   pooled vector (the affine map before the pooling, and after it) agree for a document that has a token. -/
module
public import Idealize.ShloMosaic.PureOps.Ideal
public import Idealize.ShloMosaic.PureOps.Ideal.Laws
@[expose] public section
noncomputable section
namespace Cert.HeadMath
open Idealize.ShloMosaic

/-- The mean over the 2560 features. -/
def mean (f : Fin 2560 → EReal) : EReal := Ideal.div (∑ d, f d) ((2560 : ℝ) : EReal)

theorem mean_eq (f : Fin 2560 → EReal) : mean f = (∑ d, f d) * ((1 / 2560 : ℝ) : EReal) :=
  Ideal.div_coe (by norm_num) _

/-- The features less their mean. -/
def xc (x : Fin 2560 → EReal) (d : Fin 2560) : EReal := x d - mean x

/-- The reciprocal standard deviation, with the stated `eps`. -/
def rstd (eps : EReal) (x : Fin 2560 → EReal) : EReal := Ideal.rsqrt (mean (fun d => xc x d * xc x d) + eps)

/-- The normalised features. -/
def xhat (eps : EReal) (x : Fin 2560 → EReal) (d : Fin 2560) : EReal := xc x d * rstd eps x

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_bot {ι : Type} (s : Finset ι) (f : ι → EReal) {i : ι} (hi : i ∈ s) (h : f i = ⊥) : ∑ i ∈ s, f i = ⊥ := by
  classical
  rw [← Finset.add_sum_erase s f hi, h, EReal.bot_add]

theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    intro hb
    rcases EReal.add_eq_bot_iff.mp hb with hb | hb
    · exact h a (Finset.mem_insert_self a s) hb
    · exact ih (fun i hi => h i (Finset.mem_insert_of_mem hi)) hb

theorem sum_top {ι : Type} (s : Finset ι) (f : ι → EReal) (h : ∀ i ∈ s, f i ≠ ⊥) {i : ι} (hi : i ∈ s) (ht : f i = ⊤) :
    ∑ i ∈ s, f i = ⊤ := by
  classical
  rw [← Finset.add_sum_erase s f hi, ht]
  exact EReal.top_add_of_ne_bot (sum_ne_bot _ f fun j hj => h j (Finset.mem_of_mem_erase hj))

theorem inv_pos' : (0 : EReal) < ((1 / 2560 : ℝ) : EReal) := by exact_mod_cast (by norm_num : (0 : ℝ) < 1 / 2560)

theorem mean_bot (f : Fin 2560 → EReal) (d : Fin 2560) (h : f d = ⊥) : mean f = ⊥ := by
  rw [mean_eq, sum_bot _ f (Finset.mem_univ d) h, EReal.bot_mul_of_pos inv_pos']

theorem mean_top (f : Fin 2560 → EReal) (hb : ∀ d, f d ≠ ⊥) (d : Fin 2560) (h : f d = ⊤) : mean f = ⊤ := by
  rw [mean_eq, sum_top _ f (fun i _ => hb i) (Finset.mem_univ d) h, EReal.top_mul_of_pos inv_pos']

theorem mul_self_ne_bot (a : EReal) : a * a ≠ ⊥ := by
  induction a with
  | bot => simp
  | top => simp
  | coe r => rw [← EReal.coe_mul]; exact EReal.coe_ne_bot _

/-- An infinite feature makes every normalised feature of its token zero, and finite features make finite ones. -/
theorem xhat_real (eps : ℝ) (heps : 0 < eps) (x : Fin 2560 → EReal) : ∃ r : Fin 2560 → ℝ, ∀ d, xhat eps x d = r d := by
  by_cases hx : ∀ d, ∃ r : ℝ, x d = r
  · choose r hr using hx
    obtain rfl : x = fun d => (r d : EReal) := funext hr
    have hm : mean (fun d => (r d : EReal)) = (((∑ d, r d) * (1 / 2560) : ℝ) : EReal) := by
      rw [mean_eq, ← coe_sum, ← EReal.coe_mul]
    set μ : ℝ := (∑ d, r d) * (1 / 2560)
    have hc : ∀ d, xc (fun d => (r d : EReal)) d = ((r d - μ : ℝ) : EReal) := fun d => by
      rw [xc, hm, ← EReal.coe_sub]
    have hv : mean (fun d => xc (fun d => (r d : EReal)) d * xc (fun d => (r d : EReal)) d)
        = (((∑ d, (r d - μ) * (r d - μ)) * (1 / 2560) : ℝ) : EReal) := by
      rw [mean_eq, EReal.coe_mul, coe_sum]
      simp only [hc, EReal.coe_mul]
    have hs : 0 ≤ (∑ d, (r d - μ) * (r d - μ)) * (1 / 2560) :=
      mul_nonneg (Finset.sum_nonneg fun d _ => mul_self_nonneg _) (by norm_num)
    refine ⟨fun d => (r d - μ) * (Real.sqrt ((∑ d, (r d - μ) * (r d - μ)) * (1 / 2560) + eps))⁻¹, fun d => ?_⟩
    rw [xhat, rstd, hv, hc, ← EReal.coe_add, Ideal.rsqrt_coe, if_neg (by linarith), if_neg (by linarith), EReal.coe_mul]
  · have hv : mean (fun d => xc x d * xc x d) = ⊤ := by
      by_cases hb : ∃ d, x d = ⊥
      · obtain ⟨d, hd⟩ := hb
        refine mean_top _ (fun d => mul_self_ne_bot _) d ?_
        rw [xc, hd, EReal.bot_sub, EReal.bot_mul_bot]
      · have hb' : ∀ d, x d ≠ ⊥ := fun d h => hb ⟨d, h⟩
        obtain ⟨d, hd⟩ := not_forall.mp hx
        have hd' : x d = ⊤ := by
          induction h : x d with
          | bot => exact absurd h (hb' d)
          | top => rfl
          | coe r => exact absurd ⟨r, h⟩ hd
        refine mean_top _ (fun d => mul_self_ne_bot _) d ?_
        rw [xc, mean_top x hb' d hd', sub_eq_add_neg, EReal.neg_top, EReal.add_bot, EReal.bot_mul_bot]
    refine ⟨fun _ => 0, fun d => ?_⟩
    rw [xhat, rstd, hv, EReal.top_add_of_ne_bot (EReal.coe_ne_bot _), Ideal.rsqrt_top, mul_zero, EReal.coe_zero]

/-- One where the token belongs to document `n`, else zero. -/
def oneh (ids : Fin 512 → BitVec 32) (n : ℕ) (s : Fin 512) : EReal := if ids s = BitVec.ofNat 32 n then 1 else 0

/-- The number of tokens of document `n`. -/
def cnt (ids : Fin 512 → BitVec 32) (n : ℕ) : EReal := ∑ s, oneh ids n s

theorem oneh_coe (ids : Fin 512 → BitVec 32) (n : ℕ) (s : Fin 512) :
    oneh ids n s = ((if ids s = BitVec.ofNat 32 n then 1 else 0 : ℝ) : EReal) := by
  unfold oneh; split <;> simp

theorem cnt_coe (ids : Fin 512 → BitVec 32) (n : ℕ) :
    cnt ids n = ((∑ s, (if ids s = BitVec.ofNat 32 n then 1 else 0) : ℝ) : EReal) := by
  rw [cnt, coe_sum]; exact Finset.sum_congr rfl fun s _ => oneh_coe ids n s

theorem cnt_pos (ids : Fin 512 → BitVec 32) (n : ℕ) (h : ∃ s, ids s = BitVec.ofNat 32 n) :
    (0 : ℝ) < ∑ s, (if ids s = BitVec.ofNat 32 n then 1 else 0) := by
  obtain ⟨s, hs⟩ := h
  exact Finset.sum_pos' (fun i _ => by split <;> norm_num) ⟨s, Finset.mem_univ s, by rw [if_pos hs]; norm_num⟩

/-- The mean of a per-token quantity over the tokens of document `n`. -/
def pool (ids : Fin 512 → BitVec 32) (n : ℕ) (y : Fin 512 → EReal) : EReal := Ideal.div (∑ s, oneh ids n s * y s) (cnt ids n)

theorem pool_coe (ids : Fin 512 → BitVec 32) (n : ℕ) (h : ∃ s, ids s = BitVec.ofNat 32 n) (r : Fin 512 → ℝ) :
    pool ids n (fun s => (r s : EReal)) = (((∑ s, (if ids s = BitVec.ofNat 32 n then 1 else 0) * r s)
      * (1 / ∑ s, (if ids s = BitVec.ofNat 32 n then 1 else 0)) : ℝ) : EReal) := by
  rw [pool, cnt_coe, Ideal.div_coe (cnt_pos ids n h).ne', EReal.coe_mul, coe_sum]
  simp only [oneh_coe, EReal.coe_mul]

/-- For a document that has a token, the pooled affine image is the affine image of the pooled vector. -/
theorem pool_affine_real (ids : Fin 512 → BitVec 32) (n : ℕ) (h : ∃ s, ids s = BitVec.ofNat 32 n) (y : Fin 512 → EReal) (r : Fin 512 → ℝ)
    (hr : ∀ s, y s = r s) (a b : ℝ) :
    pool ids n (fun s => y s * a + b) = pool ids n y * a + b := by
  obtain rfl : y = fun s => (r s : EReal) := funext hr
  have hc := (cnt_pos ids n h).ne'
  have : (fun s => (r s : EReal) * (a : EReal) + (b : EReal)) = fun s => ((r s * a + b : ℝ) : EReal) := by
    funext s; rw [EReal.coe_add, EReal.coe_mul]
  rw [this, pool_coe ids n h, pool_coe ids n h, ← EReal.coe_mul, ← EReal.coe_add]
  congr 1
  set o : Fin 512 → ℝ := fun s => if ids s = BitVec.ofNat 32 n then 1 else 0
  have e : ∑ s, o s * (r s * a + b) = (∑ s, o s * r s) * a + (∑ s, o s) * b := by
    rw [Finset.sum_mul, Finset.sum_mul, ← Finset.sum_add_distrib]
    exact Finset.sum_congr rfl fun s _ => by ring
  show (∑ s, o s * (r s * a + b)) * (1 / ∑ s, o s) = (∑ s, o s * r s) * (1 / ∑ s, o s) * a + b
  have hc' : ∑ s, o s ≠ 0 := hc
  rw [e]; field_simp

theorem pool_top (ids : Fin 512 → BitVec 32) (n : ℕ) (h : ∃ s, ids s = BitVec.ofNat 32 n) : pool ids n (fun _ => ⊤) = ⊤ := by
  have hc := cnt_pos ids n h
  obtain ⟨s, hs⟩ := h
  rw [pool, cnt_coe, Ideal.div_coe hc.ne', sum_top Finset.univ (fun s => oneh ids n s * ⊤) (fun i _ => ?_) (Finset.mem_univ s) ?_,
    EReal.top_mul_coe_of_pos (one_div_pos.mpr hc)]
  · unfold oneh; rw [if_pos hs, one_mul]
  · unfold oneh; split <;> simp

theorem pool_bot (ids : Fin 512 → BitVec 32) (n : ℕ) (h : ∃ s, ids s = BitVec.ofNat 32 n) : pool ids n (fun _ => ⊥) = ⊥ := by
  have hc := cnt_pos ids n h
  obtain ⟨s, hs⟩ := h
  rw [pool, cnt_coe, Ideal.div_coe hc.ne', sum_bot Finset.univ (fun s => oneh ids n s * ⊥) (Finset.mem_univ s) ?_,
    EReal.bot_mul_coe_of_pos (one_div_pos.mpr hc)]
  unfold oneh; rw [if_pos hs, one_mul]

/-- The same with any shift: an infinite one makes both sides that infinity. -/
theorem pool_affine (ids : Fin 512 → BitVec 32) (n : ℕ) (h : ∃ s, ids s = BitVec.ofNat 32 n) (y : Fin 512 → EReal) (r : Fin 512 → ℝ)
    (hr : ∀ s, y s = r s) (a : ℝ) (b : EReal) :
    pool ids n (fun s => y s * a + b) = pool ids n y * a + b := by
  induction b with
  | coe b => exact pool_affine_real ids n h y r hr a b
  | top =>
    obtain rfl : y = fun s => (r s : EReal) := funext hr
    rw [pool_coe ids n h, ← EReal.coe_mul, EReal.coe_add_top]
    simp only [← EReal.coe_mul, EReal.coe_add_top]
    exact pool_top ids n h
  | bot =>
    simp only [EReal.add_bot]
    exact pool_bot ids n h

/-- The length of a pooled vector. -/
def nrm (p : Fin 2560 → EReal) : EReal := Ideal.sqrt (∑ d, p d * p d)

/-- The gradient of a pooled vector from the gradient `g` of its normalised form. -/
def dpool (p g : Fin 2560 → EReal) (d : Fin 2560) : EReal :=
  Ideal.div (g d - Ideal.div (p d) (nrm p) * ∑ k, Ideal.div (p k) (nrm p) * g k) (nrm p)

/-- A token's gradient before the layer norm's own backward pass, from its document's (zero without one). -/
def pick (ids : Fin 512 → BitVec 32) (s : Fin 512) (v : ℕ → EReal) : EReal :=
  if ids s = 4 then v 4 else if ids s = 3 then v 3 else if ids s = 2 then v 2 else if ids s = 1 then v 1 else if ids s = 0 then v 0 else 0

/-- The backward pass of the layer norm at one token. -/
def dh (eps : EReal) (x : Fin 2560 → EReal) (dx : Fin 2560 → EReal) (d : Fin 2560) : EReal :=
  rstd eps x * (dx d - mean dx - xhat eps x d * mean (fun k => dx k * xhat eps x k))

theorem mean_zero : mean (fun _ => 0) = 0 := by rw [mean_eq]; simp

theorem pick_mean (ids : Fin 512 → BitVec 32) (s : Fin 512) (v : ℕ → Fin 2560 → EReal) :
    pick ids s (fun n => mean (v n)) = mean (fun d => pick ids s (fun n => v n d)) := by
  unfold pick
  split_ifs <;> first | rfl | exact mean_zero.symm

theorem pick_mul (ids : Fin 512 → BitVec 32) (s : Fin 512) (v : ℕ → EReal) (a : EReal) :
    pick ids s (fun n => v n * a) = pick ids s v * a := by
  unfold pick
  split_ifs <;> first | rfl | exact (zero_mul a).symm

theorem pick_congr (ids : Fin 512 → BitVec 32) (s : Fin 512) (v w : ℕ → EReal)
    (h : ∀ n < 5, (∃ s, ids s = BitVec.ofNat 32 n) → v n = w n) : pick ids s v = pick ids s w := by
  unfold pick
  split_ifs with h4 h3 h2 h1 h0
  · exact h 4 (by norm_num) ⟨s, h4⟩
  · exact h 3 (by norm_num) ⟨s, h3⟩
  · exact h 2 (by norm_num) ⟨s, h2⟩
  · exact h 1 (by norm_num) ⟨s, h1⟩
  · exact h 0 (by norm_num) ⟨s, h0⟩
  · rfl

/-- Spreading by the one-hot matrix picks the token's document. -/
theorem sum_oneh (ids : Fin 512 → BitVec 32) (s : Fin 512) (v : ℕ → EReal) :
    ∑ n : Fin 5, oneh ids n.val s * v n.val = pick ids s v := by
  simp only [Fin.sum_univ_five, oneh, pick]
  show (if ids s = 0#32 then (1 : EReal) else 0) * v 0 + (if ids s = 1#32 then (1 : EReal) else 0) * v 1 + (if ids s = 2#32 then (1 : EReal) else 0) * v 2
    + (if ids s = 3#32 then (1 : EReal) else 0) * v 3 + (if ids s = 4#32 then (1 : EReal) else 0) * v 4 = _
  show _ = if ids s = 4#32 then v 4 else if ids s = 3#32 then v 3 else if ids s = 2#32 then v 2 else if ids s = 1#32 then v 1 else if ids s = 0#32 then v 0 else 0
  by_cases h4 : ids s = 4#32
  · simp [h4]
  by_cases h3 : ids s = 3#32
  · simp [h3]
  by_cases h2 : ids s = 2#32
  · simp [h2]
  by_cases h1 : ids s = 1#32
  · simp [h1]
  by_cases h0 : ids s = 0#32
  · simp [h0]
  simp [h0, h1, h2, h3, h4]

end Cert.HeadMath
-- ==== Proof.HeadRows.lean ====
/- The kernel's per-document rows and its token gradient of a chunk of 32 rows, read at an index. -/
module
public import proofs.«01_k».proof.Proof.HeadTrip
public import proofs.«01_k».proof.Proof.HeadMath
@[expose] public section
set_option maxRecDepth 16384
noncomputable section
namespace Cert.HeadIdeal.Value
open Cert.HeadIdeal Cert.HeadIdeal.Gen Idealize.ShloMosaic Idealize.ShloMosaic.TcCoe Idealize.SL.Sem
open Cert.HeadMath

/-- The constant added to the variance. -/
abbrev eps : EReal := Ideal.ofBits .f32 0x3727C5AC#32

theorem ids_at (v : Vec Ideal S1x1x512 .i32) (s : Fin 512) (l : Fin 128) :
    (k0_pay2 (F := Ideal) (k0_pay216 v) (ix2 s l) : EReal) = (((v (ix3 0 0 s) : BitVec 32).toInt : ℝ) : EReal) := by
  pointwise [k0_pay2, k0_pay216]
  all_goals rfl

theorem inv_named : (Named.named (F := Ideal) (φ := .f32) κ "inv_d" 0x39CCCCCD#32 : EReal) = ((1 / 2560 : ℝ) : EReal) := by
  rfl

theorem rstd_at (v : Vec Ideal S1x32x2560 .bf16) (r : Fin 32) (l : Fin 128) :
    (k0_pay214 (F := Ideal) v (ix2 r l) : EReal) = rstd eps (fun d => (v (ix3 0 r d) : EReal)) := by
  unfold rstd xc
  simp only [mean_eq]
  pointwise [k0_pay214, k0_pay213, k0_pay212]
  rfl

theorem xhat_at (v : Vec Ideal S1x32x2560 .bf16) (r : Fin 32) (q : Fin 2560) :
    (k0_pay215 (F := Ideal) v (ix2 r q) : EReal) = xhat eps (fun d => (v (ix3 0 r d) : EReal)) q := by
  unfold xhat rstd xc
  simp only [mean_eq]
  pointwise [k0_pay215, k0_pay213, k0_pay212]
  rfl

theorem lt5_at (n : Fin 8) (hn : n.val < 5) (z : Fin 1) : (k0_pay220 (ix2 n z)) = 1#1 := by
  pointwise [k0_pay220]
  revert hn
  fin_cases n <;> decide

theorem select_eq (a w : BitVec 32) : Scalar.select (IntOp.cmpi .eq a w) (1 : EReal) 0 = if w = a then 1 else 0 := by
  unfold Scalar.select IntOp.cmpi
  by_cases h : w = a
  · simp [h]
  · have h' : (a == w) = false := beq_false_of_ne (Ne.symm h)
    simp [h, h']

theorem oneh_at (v : Vec Ideal S1x1x512 .i32) (n : Fin 8) (s : Fin 512) :
    (k0_pay217 (F := Ideal) v (ix2 n s) : EReal) = oneh (fun s => v (ix3 0 0 s)) n.val s := by
  pointwise [k0_pay217, k0_pay216]
  exact select_eq _ _

theorem cnt_at (v : Vec Ideal S1x1x512 .i32) (n : Fin 8) (z : Fin 1) :
    (k0_pay218 (F := Ideal) v (ix2 n z) : EReal) = cnt (fun s => v (ix3 0 0 s)) n.val := by
  pointwise [k0_pay218]
  exact Finset.sum_congr rfl fun s _ => oneh_at v n s

theorem pool_at (v : Vec Ideal S1x1x512 .i32) (x : Vec Ideal S512x2560 .f32) (n : Fin 8) (hn : n.val < 5) (q : Fin 2560) :
    (k0_pay221 (F := Ideal) v x (ix2 n q) : EReal) = pool (fun s => v (ix3 0 0 s)) n.val (fun s => x (ix2 s q)) := by
  pointwise [k0_pay221]
  rw [lt5_at n hn, cnt_at]
  refine congrArg₂ Ideal.div (Finset.sum_congr rfl fun s _ => ?_) rfl
  rw [oneh_at]

theorem pooled_at (v : Vec Ideal S1x1x512 .i32) (ga be : Vec Ideal S1x2560 .f32) (x : Vec Ideal S512x2560 .f32) (n : Fin 8) (hn : n.val < 5) (q : Fin 2560) :
    (k0_pay222 (F := Ideal) v ga be x (ix2 n q) : EReal)
      = pool (fun s => v (ix3 0 0 s)) n.val (fun s => x (ix2 s q)) * ga (ix2 0 q) + be (ix2 0 q) := by
  pointwise [k0_pay222, k0_pay219]
  rw [pool_at v x n hn]

theorem nrm_at (v : Vec Ideal S1x1x512 .i32) (ga be : Vec Ideal S1x2560 .f32) (x : Vec Ideal S512x2560 .f32) (n : Fin 8) (z : Fin 1) :
    (k0_pay223 (F := Ideal) v ga be x (ix2 n z) : EReal) = nrm (fun q => k0_pay222 (F := Ideal) v ga be x (ix2 n q)) := by
  pointwise [k0_pay223]
  rfl

theorem unit_at (v : Vec Ideal S1x1x512 .i32) (ga be : Vec Ideal S1x2560 .f32) (x : Vec Ideal S512x2560 .f32) (n : Fin 8) (q : Fin 2560) :
    (k0_pay224 (F := Ideal) v ga be x (ix2 n q) : EReal)
      = Ideal.div (k0_pay222 (F := Ideal) v ga be x (ix2 n q)) (nrm (fun q => k0_pay222 (F := Ideal) v ga be x (ix2 n q))) := by
  pointwise [k0_pay224]
  rw [nrm_at]

/-- The gradient a document hands each of its tokens, from the gradient `g` of its row. -/
def doc (ids : Fin 512 → BitVec 32) (xh : Fin 512 → Fin 2560 → EReal) (ga be g : Fin 2560 → EReal) (n : ℕ) (d : Fin 2560) : EReal :=
  Ideal.div (dpool (fun q => pool ids n (fun s => xh s q) * ga q + be q) g d) (cnt ids n) * ga d

/-- The kernel's table of documents' gradients. -/
abbrev docV (v : Vec Ideal S1x1x512 .i32) (ga be : Vec Ideal S1x2560 .f32) (x : Vec Ideal S512x2560 .f32) (g : Vec Ideal S1x8x2560 .f32) : FVec Ideal S8x2560 .f32 :=
  k0_pay226 (F := Ideal) (k0_pay218 v) (k0_pay219 ga) k0_pay220 (k0_pay223 v ga be x) (k0_pay224 v ga be x) g

/-- Their means over the features. -/
abbrev docmeanV (v : Vec Ideal S1x1x512 .i32) (ga be : Vec Ideal S1x2560 .f32) (x : Vec Ideal S512x2560 .f32) (g : Vec Ideal S1x8x2560 .f32) : FVec Ideal S8x1 .f32 :=
  k0_pay227 (F := Ideal) (k0_pay218 v) (k0_pay219 ga) k0_pay220 (k0_pay223 v ga be x) (k0_pay224 v ga be x) g

theorem docmean_at (v : Vec Ideal S1x1x512 .i32) (ga be : Vec Ideal S1x2560 .f32) (x : Vec Ideal S512x2560 .f32) (g : Vec Ideal S1x8x2560 .f32) (n : Fin 8) (z : Fin 1) :
    (docmeanV v ga be x g (ix2 n z) : EReal) = mean (fun q => docV v ga be x g (ix2 n q)) := by
  rw [mean_eq]
  pointwise [docmeanV, k0_pay227]
  rfl

theorem doc_at (v : Vec Ideal S1x1x512 .i32) (ga be : Vec Ideal S1x2560 .f32) (x : Vec Ideal S512x2560 .f32) (g : Vec Ideal S1x8x2560 .f32)
    (n : Fin 8) (hn : n.val < 5) (q : Fin 2560) :
    (docV v ga be x g (ix2 n q) : EReal)
      = doc (fun s => v (ix3 0 0 s)) (fun s q => x (ix2 s q)) (fun q => ga (ix2 0 q)) (fun q => be (ix2 0 q)) (fun q => g (ix3 0 n q)) n.val q := by
  pointwise [docV, k0_pay226, k0_pay225, k0_pay219]
  simp only [lt5_at n hn, unit_at, nrm_at, cnt_at, pooled_at v ga be x n hn]
  rfl

theorem toInt_eq (b : BitVec 32) (k : BitVec 32) : (((b.toInt : ℝ) : EReal) = ((k.toInt : ℝ) : EReal)) = (b = k) := by
  rw [EReal.coe_eq_coe_iff, Int.cast_inj, BitVec.toInt_inj]

theorem bits4 : Ideal.ofBits .f32 0x40800000#32 = (((4#32 : BitVec 32).toInt : ℝ) : EReal) := by
  rw [show (4#32 : BitVec 32).toInt = 4 by decide]
  simp [Ideal.ofBits, Ideal.ieee, -EReal.coe_mul, -EReal.coe_pow]; try norm_num
theorem bits3 : Ideal.ofBits .f32 0x40400000#32 = (((3#32 : BitVec 32).toInt : ℝ) : EReal) := by
  rw [show (3#32 : BitVec 32).toInt = 3 by decide]
  simp [Ideal.ofBits, Ideal.ieee, -EReal.coe_mul, -EReal.coe_pow]; try norm_num
theorem bits2 : Ideal.ofBits .f32 0x40000000#32 = (((2#32 : BitVec 32).toInt : ℝ) : EReal) := by
  rw [show (2#32 : BitVec 32).toInt = 2 by decide]
  simp [Ideal.ofBits, Ideal.ieee, -EReal.coe_mul, -EReal.coe_pow]; try norm_num
theorem int1 : (1 : EReal) = (((1#32 : BitVec 32).toInt : ℝ) : EReal) := by
  rw [show (1#32 : BitVec 32).toInt = 1 by decide]; simp
theorem int0 : (0 : EReal) = (((0#32 : BitVec 32).toInt : ℝ) : EReal) := by
  rw [show (0#32 : BitVec 32).toInt = 0 by decide]; simp

/-- The kernel compares the indices as floats. -/
theorem pick_float (b : Fin 512 → BitVec 32) (s : Fin 512) (f : EReal) (hf : f = (((b s).toInt : ℝ) : EReal)) (v : ℕ → EReal)
    (v4 v3 v2 v1 v0 : EReal) (h4 : v4 = v 4) (h3 : v3 = v 3) (h2 : v2 = v 2) (h1 : v1 = v 1) (h0 : v0 = v 0) :
    (if f = Ideal.ofBits .f32 0x40800000#32 then v4 else if f = Ideal.ofBits .f32 0x40400000#32 then v3 else
      if f = Ideal.ofBits .f32 0x40000000#32 then v2 else if f = 1 then v1 else if f = 0 then v0 else 0) = pick b s v := by
  subst hf h4 h3 h2 h1 h0
  have e1 : ((((b s).toInt : ℝ) : EReal) = 1) = (b s = 1#32) := by rw [int1, toInt_eq]
  have e0 : ((((b s).toInt : ℝ) : EReal) = 0) = (b s = 0#32) := by rw [int0, toInt_eq]
  unfold pick
  simp only [bits4, bits3, bits2, toInt_eq, e1, e0]
  rfl

/-- A row of a chunk's gradient: the backward pass of the layer norm at the row's token. -/
theorem dhV_at (v57 : FVec Ideal S8x2560 .f32) (v61 : FVec Ideal S8x1 .f32) (ids rs : Vec Ideal S32x1 .f32) (xh : Vec Ideal S32x2560 .f32)
    (h61 : ∀ n z, (v61 (ix2 n z) : EReal) = mean (fun q => v57 (ix2 n q))) (b : Fin 512 → BitVec 32) (s : Fin 512) (x : Fin 2560 → EReal)
    (dv : ℕ → Fin 2560 → EReal) (h57 : ∀ (n : Fin 8) (q : Fin 2560), n.val < 5 → (v57 (ix2 n q) : EReal) = dv n.val q)
    (r : Fin 32) (q : Fin 2560) (hb : (ids (ix2 r 0) : EReal) = (((b s).toInt : ℝ) : EReal)) (hr : (rs (ix2 r 0) : EReal) = rstd eps x)
    (hx : ∀ q, (xh (ix2 r q) : EReal) = xhat eps x q) :
    (dhV v57 v61 ids rs xh (ix2 r q) : EReal) = dh eps x (fun d => pick b s (fun n => dv n d)) q := by
  have hp : ∀ q', (if (ids (ix2 r 0) : EReal) = Ideal.ofBits .f32 0x40800000#32 then (v57 (ix2 4 q') : EReal) else
      if (ids (ix2 r 0) : EReal) = Ideal.ofBits .f32 0x40400000#32 then v57 (ix2 3 q') else
      if (ids (ix2 r 0) : EReal) = Ideal.ofBits .f32 0x40000000#32 then v57 (ix2 2 q') else
      if (ids (ix2 r 0) : EReal) = 1 then v57 (ix2 1 q') else if (ids (ix2 r 0) : EReal) = 0 then v57 (ix2 0 q') else 0)
      = pick b s (fun n => dv n q') := fun q' =>
    pick_float b s _ hb _ _ _ _ _ _ (h57 4 q' (by decide)) (h57 3 q' (by decide)) (h57 2 q' (by decide)) (h57 1 q' (by decide)) (h57 0 q' (by decide))
  have h61' : ∀ n : Fin 8, n.val < 5 → (v61 (ix2 n 0) : EReal) = mean (dv n.val) := fun n hn => by
    rw [h61]; exact congrArg mean (funext fun q => h57 n q hn)
  have hm : (if (ids (ix2 r 0) : EReal) = Ideal.ofBits .f32 0x40800000#32 then (v61 (ix2 4 0) : EReal) else
      if (ids (ix2 r 0) : EReal) = Ideal.ofBits .f32 0x40400000#32 then v61 (ix2 3 0) else
      if (ids (ix2 r 0) : EReal) = Ideal.ofBits .f32 0x40000000#32 then v61 (ix2 2 0) else
      if (ids (ix2 r 0) : EReal) = 1 then v61 (ix2 1 0) else if (ids (ix2 r 0) : EReal) = 0 then v61 (ix2 0 0) else 0)
      = mean (fun d => pick b s (fun n => dv n d)) := by
    rw [← pick_mean]
    exact pick_float b s _ hb (fun n => mean (dv n)) _ _ _ _ _ (h61' 4 (by decide)) (h61' 3 (by decide)) (h61' 2 (by decide)) (h61' 1 (by decide)) (h61' 0 (by decide))
  unfold dh
  rw [mean_eq (fun k => _ * _)]
  pointwise [dhV, k0_pay7, k0_pay8, k0_pay9, k0_pay10, k0_pay11, k0_pay12, k0_pay13, k0_pay14]
  rw [hm, hr, hx q]
  simp only [hp]
  simp only [hx]
  rfl
end Cert.HeadIdeal.Value
-- ==== Proof.HeadIdealScratch.lean ====
/- The two scratch buffers of the head's kernel after its first loop, independent of what they held before. -/
module

public import proofs.«01_k».proof.Proof.Gen.HeadIdeal.Frame.Runs

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Writes that cover a whole memref leave contents that do not depend on what was there before. -/
theorem writes_of_cover {κ : Kind} {sp : Space} {s : Shape} {e : EltTy} {mr : Memref sig κ sp s e} (h : mr.IsWhole) (f : mr.view.ty.Contents (Elt F))
    (L : List (View.Piece (Elt F) s e)) (hc : ∀ y, ∃ p ∈ L, y ∈ p.1.set) : mr.view.writes (Elt F) f L = h.unread (View.canon L) :=
  h.eq_unread (View.read_writes_eq_canon mr.view f L hc)

/-- The first loop leaves the scratch of normalised rows with its own stores alone. -/
theorem writes_arg11 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (X : BufTy.Contents (Elt F) arg1.view.ty) (f) :
    arg11.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 X (Scf.trips k0_t1_loop.lb k0_t1_loop.ub k0_t1_loop.st)).1 = harg11.unread (View.canon (pb_k0_t1 (F := F) Variants.none c none i arg1 harg1 arg2 harg2 arg3 harg3 arg4 harg4 arg5 harg5 arg6 harg6 arg7 harg7 arg8 harg8 arg9 harg9 arg10 harg10 arg11 harg11 arg12 harg12 X (Scf.trips k0_t1_loop.lb k0_t1_loop.ub k0_t1_loop.st)).1) :=
  writes_of_cover harg11 f _ (fun y => View.cover_of_tiledL (s := S512x2560) _ S32x2560.size (by sl_kernel_rfl) y)

/-- The first loop and the store of the indices leave the scratch of columns with their own stores alone. -/
theorem writes_arg12 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (X : BufTy.Contents (Elt F) arg1.view.ty) (f) (w : Vec F S512x128 .f32) :
    arg12.view.writes (Elt F) f (⟨Rect.unit (s := S512x256) ![0, 128] S512x128.size inb_S512x256_S512x128_0_128, w⟩ :: (pb_k0_t1 (F := F) Variants.none c none i arg1 harg1 arg2 harg2 arg3 harg3 arg4 harg4 arg5 harg5 arg6 harg6 arg7 harg7 arg8 harg8 arg9 harg9 arg10 harg10 arg11 harg11 arg12 harg12 X (Scf.trips k0_t1_loop.lb k0_t1_loop.ub k0_t1_loop.st)).2) = harg12.unread (View.canon (⟨Rect.unit (s := S512x256) ![0, 128] S512x128.size inb_S512x256_S512x128_0_128, w⟩ :: (pb_k0_t1 (F := F) Variants.none c none i arg1 harg1 arg2 harg2 arg3 harg3 arg4 harg4 arg5 harg5 arg6 harg6 arg7 harg7 arg8 harg8 arg9 harg9 arg10 harg10 arg11 harg11 arg12 harg12 X (Scf.trips k0_t1_loop.lb k0_t1_loop.ub k0_t1_loop.st)).2)) :=
  writes_of_cover harg12 f _ (fun y => View.cover_of_tiledBy (s := S512x256) _ S32x128.size (by sl_kernel_rfl) y)

end Cert.HeadIdeal.Gen
-- ==== Proof.HeadLoops.lean ====
/- What the two loops of the head's kernel store, over all their trips. -/
module
public import proofs.«01_k».proof.Proof.HeadRows
public import proofs.«01_k».proof.Proof.HeadIdealScratch
@[expose] public section
set_option maxRecDepth 16384
noncomputable section
namespace Cert.HeadIdeal.Value
open Cert.HeadIdeal Cert.HeadIdeal.Gen Idealize.ShloMosaic Idealize.ShloMosaic.TcCoe Idealize.SL.Sem
open Cert.HeadMath

theorem PiecesOf_append {s : Shape} {e : EltTy} (G : s.Idx → Elt Ideal e) (L' : List (View.Piece (Elt Ideal) s e)) (h' : View.PiecesOf G L') :
    ∀ L : List (View.Piece (Elt Ideal) s e), View.PiecesOf G L → View.PiecesOf G (L ++ L')
  | [], _ => h'
  | _ :: L, h => ⟨h.1, PiecesOf_append G L' h' L h.2⟩

/-- The first loop's row of a trip. -/
theorem row1_toNat (k : Fin k0_t1_loop.trips) : k0_off3 k 0 = 32 * k.val := by
  have hk : k.val < 16 := Nat.lt_of_lt_of_le k.isLt k0_t1_abs.2.1
  unfold k0_off3
  simp [Scf.iv, Scalar.muli, Scalar.indexCast]
  show ((BitVec.ofNat 32 k.val) * 32#32 : BitVec 32).toNat = _
  simp only [BitVec.toNat_mul, BitVec.toNat_ofNat]
  omega

theorem row1_lt (k : Fin k0_t1_loop.trips) (r : Fin 32) : 32 * k.val + r.val < 512 := by
  have hk : k.val < 16 := Nat.lt_of_lt_of_le k.isLt k0_t1_abs.2.1
  have := r.isLt
  omega

/-- The features of token `s`. -/
abbrev feat (x0 : Vec Ideal S1x512x2560 .bf16) (s : Fin 512) : Fin 2560 → EReal := fun d => x0 (ix3 0 s d)

/-- The scratch of normalised rows after the first loop. -/
def normG (x0 : Vec Ideal S1x512x2560 .bf16) : Vec Ideal S512x2560 .f32 := fun y =>
  xhat eps (feat x0 ⟨(y 0).val, (y 0).isLt⟩) ⟨(y 1).val, (y 1).isLt⟩

/-- The scratch of columns after the first loop: the reciprocal deviations, then the indices. -/
def colG (x0 : Vec Ideal S1x512x2560 .bf16) (x1 : Vec Ideal S1x1x512 .i32) : Vec Ideal S512x256 .f32 := fun y =>
  if (y 1).val < 128 then rstd eps (feat x0 ⟨(y 0).val, (y 0).isLt⟩)
  else (((x1 (ix3 0 0 ⟨(y 0).val, (y 0).isLt⟩) : BitVec 32).toInt : ℝ) : EReal)

theorem colG_lt (x0 : Vec Ideal S1x512x2560 .bf16) (x1 : Vec Ideal S1x1x512 .i32) (y : S512x256.Idx) (s : Fin 512) (h : (y 1).val < 128)
    (hs : s.val = (y 0).val) : colG x0 x1 y = rstd eps (feat x0 s) := by
  unfold colG
  rw [if_pos h]
  exact congrArg (fun s => rstd eps (feat x0 s)) (Fin.ext hs.symm)

theorem colG_ge (x0 : Vec Ideal S1x512x2560 .bf16) (x1 : Vec Ideal S1x1x512 .i32) (y : S512x256.Idx) (s : Fin 512) (h : ¬(y 1).val < 128)
    (hs : s.val = (y 0).val) : colG x0 x1 y = (((x1 (ix3 0 0 s) : BitVec 32).toInt : ℝ) : EReal) := by
  unfold colG
  rw [if_neg h]
  exact congrArg (fun s => (((x1 (ix3 0 0 s) : BitVec 32).toInt : ℝ) : EReal)) (Fin.ext hs.symm)

theorem trip1 (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole)
  (x0 : Vec Ideal S1x512x2560 .bf16) (x1 : Vec Ideal S1x1x512 .i32) (k : Fin k0_t1_loop.trips) :
  View.PiecesOf (normG x0) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) k).1
  ∧ View.PiecesOf (colG x0 x1) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) k).2 := by
  have e1 : k0_off1 k = ![0, k0_off3 k 0, 0] := by rfl
  have hrow : ∀ (r : Fin 32) (inb) (s : Fin 512), s.val = 32 * k.val + r.val →
      (fun d => (View.ld x0 (Rect.unit (s := S1x512x2560) (k0_off1 k) S1x32x2560.size inb) (ix3 0 r d) : EReal)) = feat x0 s := by
    rw [e1]
    intro r inb s hs
    funext d
    refine congrArg x0 (funext fun a => Fin.ext ?_)
    match a with
    | ⟨0, _⟩ => rfl
    | ⟨1, _⟩ => show k0_off3 k 0 + 1 * r.val = s.val; rw [row1_toNat, hs]; omega
    | ⟨2, _⟩ => show 0 + 1 * d.val = d.val; omega
  unfold tripL_k0_t1 trip_k0_t1
  dsimp only
  rw [View.readAt_eq_ld, harg1.read_unread]
  refine ⟨⟨fun (x : S32x2560.Idx) => ?_, trivial⟩, ⟨fun (x : S32x128.Idx) => ?_, trivial⟩⟩
  · obtain ⟨r, q, rfl⟩ : ∃ (r : Fin 32) (q : Fin 2560), x = ix2 r q := ⟨x 0, x 1, by funext a; fin_cases a <;> rfl⟩
    refine (xhat_at _ r q).trans ?_
    rw [hrow r _ ⟨32 * k.val + r.val, row1_lt k r⟩ rfl]
    refine congrArg₂ (fun s q => xhat eps (feat x0 s) q) (Fin.ext ?_) (Fin.ext ?_)
    · show _ = k0_off3 k 0 + 1 * r.val
      rw [row1_toNat]; show 32 * k.val + r.val = _; omega
    · show q.val = 0 + 1 * q.val; omega
  · obtain ⟨r, q, rfl⟩ : ∃ (r : Fin 32) (q : Fin 128), x = ix2 r q := ⟨x 0, x 1, by funext a; fin_cases a <;> rfl⟩
    refine (rstd_at _ r q).trans ?_
    rw [hrow r _ ⟨32 * k.val + r.val, row1_lt k r⟩ rfl]
    refine (colG_lt x0 x1 _ _ (show 0 + 1 * q.val < 128 by have := q.isLt; omega) ?_).symm
    show _ = k0_off3 k 0 + 1 * r.val
    rw [row1_toNat]; show 32 * k.val + r.val = _; omega

theorem loop1 (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole)
  (x0 : Vec Ideal S1x512x2560 .bf16) (x1 : Vec Ideal S1x1x512 .i32) : ∀ n : Nat, n ≤ k0_t1_loop.trips →
  View.PiecesOf (normG x0) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) n).1
  ∧ View.PiecesOf (colG x0 x1) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) n).2
  | 0, _ => by rw [pb_k0_t1]; exact ⟨trivial, trivial⟩
  | n + 1, hn => by
    have ih := loop1 𝒱 c bd i arg1 harg1 arg2 harg2 arg3 harg3 arg4 harg4 arg5 harg5 arg6 harg6 arg7 harg7 arg8 harg8 arg9 harg9 arg10 harg10 arg11 harg11 arg12 harg12 x0 x1 n (Nat.le_of_succ_le hn)
    have hk := trip1 𝒱 c bd i arg1 harg1 arg2 harg2 arg3 harg3 arg4 harg4 arg5 harg5 arg6 harg6 arg7 harg7 arg8 harg8 arg9 harg9 arg10 harg10 arg11 harg11 arg12 harg12 x0 x1 ⟨n, hn⟩
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 (harg1.unread x0) ⟨n, hn⟩
    rw [e]
    exact ⟨PiecesOf_append _ _ ih.1 _ hk.1, PiecesOf_append _ _ ih.2 _ hk.2⟩

/-- The scratch of normalised rows. -/
theorem canon_norm (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (x0 : Vec Ideal S1x512x2560 .bf16) :
  View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (Scf.trips k0_t1_loop.lb k0_t1_loop.ub k0_t1_loop.st)).1 = normG x0 := by
  funext y
  exact View.canon_apply_of_pieces (normG x0) _ (loop1 𝒱 c bd i arg1 harg1 arg2 harg2 arg3 harg3 arg4 harg4 arg5 harg5 arg6 harg6 arg7 harg7 arg8 harg8 arg9 harg9 arg10 harg10 arg11 harg11 arg12 harg12 x0 (fun _ => 0#32) _ (Nat.le_refl _)).1.mem y
    (View.cover_of_tiledL (s := S512x2560) _ S32x2560.size (by sl_kernel_rfl) y)

/-- The scratch of columns. -/
theorem canon_col (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (x0 : Vec Ideal S1x512x2560 .bf16) (x1 : Vec Ideal S1x1x512 .i32) :
  View.canon ((⟨Rect.unit (s := S512x256) ![0, 128] S512x128.size inb_S512x256_S512x128_0_128, k0_pay2 (F := Ideal) (k0_pay216 x1)⟩ : View.Piece (Elt Ideal) S512x256 .f32) :: (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (Scf.trips k0_t1_loop.lb k0_t1_loop.ub k0_t1_loop.st)).2) = colG x0 x1 := by
  funext y
  have hp : View.PiecesOf (colG x0 x1) ((⟨Rect.unit (s := S512x256) ![0, 128] S512x128.size inb_S512x256_S512x128_0_128, k0_pay2 (F := Ideal) (k0_pay216 x1)⟩ : View.Piece (Elt Ideal) S512x256 .f32) :: (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (Scf.trips k0_t1_loop.lb k0_t1_loop.ub k0_t1_loop.st)).2) := by
    refine ⟨fun (x : S512x128.Idx) => ?_, (loop1 𝒱 c bd i arg1 harg1 arg2 harg2 arg3 harg3 arg4 harg4 arg5 harg5 arg6 harg6 arg7 harg7 arg8 harg8 arg9 harg9 arg10 harg10 arg11 harg11 arg12 harg12 x0 x1 _ (Nat.le_refl _)).2⟩
    obtain ⟨s, l, rfl⟩ : ∃ (s : Fin 512) (l : Fin 128), x = ix2 s l := ⟨x 0, x 1, by funext a; fin_cases a <;> rfl⟩
    refine (ids_at x1 s l).trans ?_
    refine (colG_ge x0 x1 _ _ (show ¬ 128 + 1 * l.val < 128 by omega) ?_).symm
    show s.val = 0 + 1 * s.val
    omega
  exact View.canon_apply_of_pieces (colG x0 x1) _ hp.mem y (View.cover_of_tiledBy (s := S512x256) _ S32x128.size (by sl_kernel_rfl) y)
end Cert.HeadIdeal.Value
-- ==== Proof.HeadBlock.lean ====
/- What one grid point of the head's kernel leaves in its three blocks of results. -/
module
public import proofs.«01_k».proof.Proof.HeadLoops
@[expose] public section
set_option maxRecDepth 16384
noncomputable section
namespace Cert.HeadIdeal.Value
open Cert.HeadIdeal Cert.HeadIdeal.Gen Idealize.ShloMosaic Idealize.ShloMosaic.TcCoe Idealize.SL.Sem
open Cert.HeadMath

/-- The 128 values of token `s` in the block of columns that holds column `q`. -/
def blk (T : Fin 512 → Fin 2560 → EReal) (s : Fin 512) (q : Fin 2560) : Fin 128 → EReal :=
  fun l => T s ⟨128 * (q.val / 128) + l.val, by have := q.isLt; have := l.isLt; omega⟩

/-- The code of the gradient `T` at token `s`, column `q`. -/
def codeT (T : Fin 512 → Fin 2560 → EReal) (s : Fin 512) (q : Fin 2560) : EReal := code (blk T s q) ⟨q.val % 128, Nat.mod_lt _ (by decide)⟩

/-- Its scale. -/
def scaleT (T : Fin 512 → Fin 2560 → EReal) (s : Fin 512) (q : Fin 2560) : EReal := scale (bound (blk T s q))

/-- The block of dequantised gradients of one grid point. -/
def dhwG (T : Fin 512 → Fin 2560 → EReal) : Vec Ideal S1x512x2560 .bf16 := fun y =>
  (codeT T ⟨(y 1).val, (y 1).isLt⟩ ⟨(y 2).val, (y 2).isLt⟩ * scaleT T ⟨(y 1).val, (y 1).isLt⟩ ⟨(y 2).val, (y 2).isLt⟩ : EReal)

/-- The block of codes of one grid point. -/
def codesG (T : Fin 512 → Fin 2560 → EReal) : Vec Ideal S1x512x2560 .fp8e5m2 := fun y =>
  (codeT T ⟨(y 1).val, (y 1).isLt⟩ ⟨(y 2).val, (y 2).isLt⟩ : EReal)

/-- The block of scales of one grid point. -/
def scalesG (T : Fin 512 → Fin 2560 → EReal) : Vec Ideal S1x512x20 .f32 := fun y =>
  (scaleT T ⟨(y 1).val, (y 1).isLt⟩ ⟨128 * (y 2).val, by have : (y 2).val < 20 := (y 2).isLt; omega⟩ : EReal)

theorem row2_lt (k : Fin k0_t2_loop.trips) (r : Fin 32) : 32 * k.val + r.val < 512 := by
  have hk : k.val < 16 := Nat.lt_of_lt_of_le k.isLt k0_t2_abs.2.1
  have := r.isLt
  omega

theorem blkRow_T (D : FVec Ideal S32x2560 .f32) (T : Fin 512 → Fin 2560 → EReal) (r : Fin 32) (s : Fin 512) (h : ∀ q, (D (ix2 r q) : EReal) = T s q)
    (q : Fin 2560) : blkRow D r q = blk T s q := funext fun _ => h _

/-- The second loop's stores, when its chunks are the rows of `T`. -/
theorem loop2 (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole)
  (v57 : FVec Ideal S8x2560 .f32) (v61 : FVec Ideal S8x1 .f32) (X11 : BufTy.Contents (Elt Ideal) arg11.view.ty) (X12 : BufTy.Contents (Elt Ideal) arg12.view.ty)
  (T : Fin 512 → Fin 2560 → EReal)
  (hT : ∀ (k : Fin k0_t2_loop.trips) (r : Fin 32) (q : Fin 2560), (dhV v57 v61
      (View.readAt (Elt Ideal) arg12.view (Rect.unit (s := S512x256) (k0_off4 k) S32x1.size (k0_off4_inb k)).toLoadRect X12)
      (View.readAt (Elt Ideal) arg12.view (Rect.unit (s := S512x256) (k0_off5 k) S32x1.size (k0_off5_inb k)).toLoadRect X12)
      (View.readAt (Elt Ideal) arg11.view (Rect.unit (s := S512x2560) (k0_off6 k) S32x2560.size (k0_off6_inb k)).toLoadRect X11) (ix2 r q) : EReal)
      = T ⟨32 * k.val + r.val, row2_lt k r⟩ q) : ∀ n : Nat, n ≤ k0_t2_loop.trips →
  View.PiecesOf (dhwG T) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 X11 X12 n).1
  ∧ View.PiecesOf (codesG T) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 X11 X12 n).2.1
  ∧ View.PiecesOf (scalesG T) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 X11 X12 n).2.2
  | 0, _ => by rw [pb_k0_t2]; exact ⟨trivial, trivial, trivial⟩
  | n + 1, hn => by
    have ih := loop2 𝒱 c bd i arg1 harg1 arg2 harg2 arg3 harg3 arg4 harg4 arg5 harg5 arg6 harg6 arg7 harg7 arg8 harg8 arg9 harg9 arg10 harg10 arg11 harg11 arg12 harg12 v57 v61 X11 X12 T hT n (Nat.le_of_succ_le hn)
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 v57 v61 X11 X12 ⟨n, hn⟩
    have hb : ∀ (s : Fin 512) (r : Fin 32) (q : Fin 2560), s.val = 32 * n + r.val → blkRow _ r q = blk T s q := fun s r q hs =>
      blkRow_T _ T r s (fun q => (hT ⟨n, hn⟩ r q).trans (congrArg (T · q) (Fin.ext hs.symm))) q
    rw [e]
    refine ⟨PiecesOf_append _ _ ih.1 _ (trip_dhw 𝒱 c bd i arg1 harg1 arg2 harg2 arg3 harg3 arg4 harg4 arg5 harg5 arg6 harg6 arg7 harg7 arg8 harg8 arg9 harg9 arg10 harg10 arg11 harg11 arg12 harg12 v57 v61 X11 X12 ⟨n, hn⟩ _ (dhwG T) (fun y r hy => ?_) rfl),
      PiecesOf_append _ _ ih.2.1 _ (trip_codes 𝒱 c bd i arg1 harg1 arg2 harg2 arg3 harg3 arg4 harg4 arg5 harg5 arg6 harg6 arg7 harg7 arg8 harg8 arg9 harg9 arg10 harg10 arg11 harg11 arg12 harg12 v57 v61 X11 X12 ⟨n, hn⟩ _ (codesG T) (fun y r hy => ?_) rfl),
      PiecesOf_append _ _ ih.2.2 _ (trip_scales 𝒱 c bd i arg1 harg1 arg2 harg2 arg3 harg3 arg4 harg4 arg5 harg5 arg6 harg6 arg7 harg7 arg8 harg8 arg9 harg9 arg10 harg10 arg11 harg11 arg12 harg12 v57 v61 X11 X12 ⟨n, hn⟩ _ (scalesG T) (fun y r q hy hq => ?_) rfl)⟩
    · unfold dhwG codeT scaleT codeAt scaleAt
      rw [hb ⟨(y 1).val, (y 1).isLt⟩ r _ hy]
    · unfold codesG codeT codeAt
      rw [hb ⟨(y 1).val, (y 1).isLt⟩ r _ hy]
    · unfold scalesG scaleT scaleAt
      rw [hb ⟨(y 1).val, (y 1).isLt⟩ r _ hy]
      refine congrArg (fun v => scale (bound v)) (funext fun l => congrArg (T _) (Fin.ext ?_))
      show 128 * (128 * (y 2).val / 128) + l.val = 128 * (q.val / 128) + l.val
      rw [hq]; omega

/-- Row `n` of the gradient of the normalised rows. -/
def gRow (x4 : Vec Ideal S1x8x2560 .f32) (n : ℕ) (q : Fin 2560) : EReal := if h : n < 8 then x4 (ix3 0 ⟨n, h⟩ q) else 0

/-- The tokens' document indices. -/
abbrev idsOf (x1 : Vec Ideal S1x1x512 .i32) (s : Fin 512) : BitVec 32 := x1 (ix3 0 0 s)

/-- The gradient over one batch's tokens. -/
def tok (x0 : Vec Ideal S1x512x2560 .bf16) (x1 : Vec Ideal S1x1x512 .i32) (x2 x3 : Vec Ideal S1x2560 .f32) (x4 : Vec Ideal S1x8x2560 .f32)
    (s : Fin 512) (q : Fin 2560) : EReal :=
  dh eps (feat x0 s) (fun d => pick (idsOf x1) s (fun n =>
    doc (idsOf x1) (fun s => xhat eps (feat x0 s)) (fun q => x2 (ix2 0 q)) (fun q => x3 (ix2 0 q)) (gRow x4 n) n d)) q

/-- The chunks of the second loop are the rows of `tok`. -/
theorem chunk {arg11 : Memref sig .tc .vmem S512x2560 .f32} (harg11 : arg11.IsWhole) {arg12 : Memref sig .tc .vmem S512x256 .f32} (harg12 : arg12.IsWhole)
    (x0 : Vec Ideal S1x512x2560 .bf16) (x1 : Vec Ideal S1x1x512 .i32) (x2 x3 : Vec Ideal S1x2560 .f32) (x4 : Vec Ideal S1x8x2560 .f32)
    (k : Fin k0_t2_loop.trips) (r : Fin 32) (q : Fin 2560) :
    (dhV (docV x1 x2 x3 (normG x0) x4) (docmeanV x1 x2 x3 (normG x0) x4)
      (View.readAt (Elt Ideal) arg12.view (Rect.unit (s := S512x256) (k0_off4 k) S32x1.size (k0_off4_inb k)).toLoadRect (harg12.unread (colG x0 x1)))
      (View.readAt (Elt Ideal) arg12.view (Rect.unit (s := S512x256) (k0_off5 k) S32x1.size (k0_off5_inb k)).toLoadRect (harg12.unread (colG x0 x1)))
      (View.readAt (Elt Ideal) arg11.view (Rect.unit (s := S512x2560) (k0_off6 k) S32x2560.size (k0_off6_inb k)).toLoadRect (harg11.unread (normG x0))) (ix2 r q) : EReal)
      = tok x0 x1 x2 x3 x4 ⟨32 * k.val + r.val, row2_lt k r⟩ q := by
  have e4 : k0_off4 k = ![k0_off7 k 1, 128] := by rfl
  have e5 : k0_off5 k = ![k0_off7 k 1, 0] := by rfl
  have e6 : k0_off6 k = ![k0_off7 k 1, 0] := by rfl
  have hr : 32 * k.val + r.val = k0_off7 k 1 + 1 * r.val := by rw [row_toNat]; omega
  rw [View.readAt_eq_ld, View.readAt_eq_ld, View.readAt_eq_ld, harg11.read_unread, harg12.read_unread]
  refine dhV_at _ _ _ _ _ (fun n z => docmean_at x1 x2 x3 (normG x0) x4 n z) (idsOf x1) ⟨32 * k.val + r.val, row2_lt k r⟩ (feat x0 ⟨32 * k.val + r.val, row2_lt k r⟩)
    (fun n => doc (idsOf x1) (fun s => xhat eps (feat x0 s)) (fun q => x2 (ix2 0 q)) (fun q => x3 (ix2 0 q)) (gRow x4 n) n)
    (fun n q hn => ?_) r q ?_ ?_ (fun q => ?_)
  · refine (doc_at x1 x2 x3 (normG x0) x4 n hn q).trans ?_
    unfold gRow
    simp only [n.isLt, dif_pos]
    rfl
  · refine colG_ge x0 x1 _ _ ?_ ?_
    · show ¬ k0_off4 k 1 + 1 * 0 < 128
      rw [e4]; show ¬ 128 + 1 * 0 < 128; omega
    · exact hr
  · refine colG_lt x0 x1 _ _ ?_ ?_
    · show k0_off5 k 1 + 1 * 0 < 128
      rw [e5]; show 0 + 1 * 0 < 128; omega
    · exact hr
  · refine congrArg₂ (fun s q => xhat eps (feat x0 s) q) (Fin.ext ?_) (Fin.ext ?_)
    · exact hr.symm
    · show k0_off6 k 1 + 1 * q.val = q.val
      rw [e6]; show 0 + 1 * q.val = q.val; omega
end Cert.HeadIdeal.Value
-- ==== Proof.HeadIdealRunA.lean ====
/- One grid point of the head's kernel, run once (the first point, which clears the sums over the documents). -/
module

public import proofs.«01_k».proof.Proof.HeadIdealScratch

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) :
    Σ' (L5 : List (View.Piece (Elt F) S1x512x2560 .bf16)), Σ' (L6 : List (View.Piece (Elt F) S1x512x2560 .fp8e5m2)), Σ' (L7 : List (View.Piece (Elt F) S1x512x20 .f32)), Σ' (L8 : List (View.Piece (Elt F) S1x2560 .f32)), { L9 : List (View.Piece (Elt F) S1x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d)) -∗ K ⟨⟩))
          ⊢ wp frame (wpE (defs₀ (F := F)) Variants.none c none) E (cc0_head_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_head_bwd_eq_skeleton]; unfold cc0_head_bwd_skel
    simp only [k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (X_arg1 : BufTy.Contents (Elt F) arg1.view.ty) (hrdF : BufTy.Contents (Elt F) arg11.view.ty) (hrdB : LoadRect S512x2560), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1 S32x2560.size (by sl_kernel_rfl) (hrdB.idx hrdJ))
    sl_exec (disch := first | sl_exact hc0)
    rw [writes_arg11, writes_arg12]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    iexists _, _; isplitr; swap; · iexact HS1
    ipureintro; rfl

end Cert.HeadIdeal.Gen

end
-- ==== Proof.HeadIdealRunB.lean ====
/- One grid point of the head's kernel, run once (a later point, which adds to the sums over the documents). -/
module

public import proofs.«01_k».proof.Proof.HeadIdealRunA

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2), WITH the
    proof that on whole staging memrefs — the inputs' at their contents, the outputs it reads before covering (8, 9) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) :
    Σ' (L5 : List (View.Piece (Elt F) S1x512x2560 .bf16)), Σ' (L6 : List (View.Piece (Elt F) S1x512x2560 .fp8e5m2)), Σ' (L7 : List (View.Piece (Elt F) S1x512x20 .f32)), Σ' (L8 : List (View.Piece (Elt F) S1x2560 .f32)), { L9 : List (View.Piece (Elt F) S1x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ (∃ d, owns (c : Thread nD τ) arg12 fullShare d)) -∗ K ⟨⟩))
          ⊢ wp frame (wpE (defs₀ (F := F)) Variants.none c none) E (cc0_head_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_head_bwd_eq_skeleton]; unfold cc0_head_bwd_skel
    simp only [k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hf8; obtain rfl := harg10.eq_unread hf9
    have hrd0 : ∀ (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (X_arg1 : BufTy.Contents (Elt F) arg1.view.ty) (hrdF : BufTy.Contents (Elt F) arg11.view.ty) (hrdB : LoadRect S512x2560), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1) = arg11.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1 hrdB := fun 𝒱 c bd i arg1 harg1 arg2 harg2 arg3 harg3 arg4 harg4 arg5 harg5 arg6 harg6 arg7 harg7 arg8 harg8 arg9 harg9 arg10 harg10 arg11 harg11 arg12 harg12 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 arg12 harg12 X_arg1 (Scf.trips k0_t1_loop.lb k0_t1_loop.ub k0_t1_loop.st)).1 S32x2560.size (by sl_kernel_rfl) (hrdB.idx hrdJ))
    sl_exec (disch := first | sl_exact hc0)
    rw [writes_arg11, writes_arg12]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    iexists _, _; isplitr; swap; · iexact HS1
    ipureintro; rfl

end Cert.HeadIdeal.Gen

end
-- ==== Proof.HeadIdealFrame.lean ====
/- The whole run of the head's kernel: every grid point runs, and the launch ends with the outputs the points left. -/
module

public import proofs.«01_k».proof.Proof.HeadIdealRunB
public import Idealize.ShloMosaic.Lib.Claim

@[expose] public section

-- membership in a rectangle of production extents (`View.cover_of_tiled`): the elaborator's structural look
-- recurses once per coordinate of the long axes
set_option maxRecDepth 16384

noncomputable section

namespace Cert.HeadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 5 tile its block (320 stores of `S1x32x128`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x512x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1 S1x32x128.size (by sl_kernel_rfl) y

/-- What case A leaves in output 5's staging buffer: its pieces read back over junk. -/
def out0_A_5 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x512x2560 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).1)

/-- Case A's pieces for output 6 tile its block (320 stores of `S1x32x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x512x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1 S1x32x128.size (by sl_kernel_rfl) y

/-- What case A leaves in output 6's staging buffer: its pieces read back over junk. -/
def out0_A_6 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x512x2560 .fp8e5m2 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.1)

/-- Case A's pieces for output 7 tile its block (16 stores of `S1x32x20`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x512x20.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1 S1x32x20.size (by sl_kernel_rfl) y

/-- What case A leaves in output 7's staging buffer: its pieces read back over junk. -/
def out0_A_7 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x512x20 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.1)

/-- Case A's pieces for output 8 tile its block (2 stores of `S1x2560`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1 S1x2560.size (by sl_kernel_rfl) y

/-- What case A leaves in output 8's staging buffer: its pieces read back over junk. -/
def out0_A_8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x2560 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.1)

/-- Case A's pieces for output 9 tile its block (2 stores of `S1x2560`, checked by the kernel's evaluation: Lib/Ring.lean `Piece.tiledL`, linear in the pieces, through a loop's `@[irreducible]` trip theorem too), so they cover it. -/
theorem cover0_A_9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) (y : S1x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1 S1x2560.size (by sl_kernel_rfl) y

/-- What case A leaves in output 9's staging buffer: its pieces read back over junk. -/
def out0_A_9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec F S1x512x2560 .bf16) (x1 : Vec F S1x1x512 .i32) (x2 : Vec F S1x2560 .f32) (x3 : Vec F S1x2560 .f32) (x4 : Vec F S1x8x2560 .f32) : Vec F S1x2560 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4).2.2.2.2.1)

/-- Case B's pieces for output 5 tile its block (320 stores of `S1x32x128`, checked by the kernel's evaluation: Lib/Ring.lean `Piece.tiledL`, linear in the pieces, through a loop's `@[irreducible]` trip theorem too), so they cover it. -/
theorem cover0_B_5 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x512x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).1 S1x32x128.size (by sl_kernel_rfl) y

/-- What case B leaves in output 5's staging buffer: its pieces read back over junk. -/
def out0_B_5 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x512x2560 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).1)

/-- Case B's pieces for output 6 tile its block (320 stores of `S1x32x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x512x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.1 S1x32x128.size (by sl_kernel_rfl) y

/-- What case B leaves in output 6's staging buffer: its pieces read back over junk. -/
def out0_B_6 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x512x2560 .fp8e5m2 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.1)

/-- Case B's pieces for output 7 tile its block (16 stores of `S1x32x20`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x512x20.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.1 S1x32x20.size (by sl_kernel_rfl) y

/-- What case B leaves in output 7's staging buffer: its pieces read back over junk. -/
def out0_B_7 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x512x20 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.1)

/-- Case B's pieces for output 8 tile its block (1 store of `S1x2560`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.1 S1x2560.size (by sl_kernel_rfl) y

/-- What case B leaves in output 8's staging buffer: its pieces read back over junk. -/
def out0_B_8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x2560 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.1)

/-- Case B's pieces for output 9 tile its block (1 store of `S1x2560`, checked by the kernel's evaluation: Lib/Ring.lean `Piece.tiledL`, linear in the pieces, through a loop's `@[irreducible]` trip theorem too), so they cover it. -/
theorem cover0_B_9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) (y : S1x2560.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.2.1 S1x2560.size (by sl_kernel_rfl) y

/-- What case B leaves in output 9's staging buffer: its pieces read back over junk. -/
def out0_B_9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec F S1x512x2560 .bf16) (x1 : Vec F S1x1x512 .i32) (x2 : Vec F S1x2560 .f32) (x3 : Vec F S1x2560 .f32) (x4 : Vec F S1x8x2560 .f32) (xo8 : Vec F S1x2560 .f32) (xo9 : Vec F S1x2560 .f32) : Vec F S1x2560 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 xo8 xo9).2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x2560 .bf16 × Vec F S1x512x2560 .fp8e5m2 × Vec F S1x512x20 .f32 × Vec F S1x2560 .f32 × Vec F S1x2560 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 3 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 3 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 3 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 3 = 0) (d) :
    (dats m 0 c).before 8 t d = (outsAt0 m c (t.val - 1) (Nat.lt_of_le_of_lt (Nat.sub_le _ _) t.isLt)).2.2.2.1 := by
  have hN : t.val < 3 := lt_of_lt_of_eq t.isLt (show cfg0.N = 3 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 3 = 0) (d) :
    (dats m 0 c).before 9 t d = (outsAt0 m c (t.val - 1) (Nat.lt_of_le_of_lt (Nat.sub_le _ _) t.isLt)).2.2.2.2 := by
  have hN : t.val < 3 := lt_of_lt_of_eq t.isLt (show cfg0.N = 3 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  have hN : t.val < 3 := lt_of_lt_of_eq t.isLt (show cfg0.N = 3 from N_0)
  by_cases h0 : t.val % 3 = 0
  · rw [outsAt0_A m c t h0]
    unfold out0_A_5 out0_A_6 out0_A_7 out0_A_8 out0_A_9; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, ⟨%e5, H5⟩, ⟨%e6, H6⟩, ⟨%e7, H7⟩, ⟨%e8, H8⟩, ⟨%e9, H9⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _)
  · rw [outsAt0_B m c t h0]
    simp only [before0_8_B m c t h0, before0_9_B m c t h0]
    unfold out0_B_5 out0_B_6 out0_B_7 out0_B_8 out0_B_9; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexact H9
    isplitl [HS0]; · iexact HS0
    isplitl [HS1]; · iexact HS1
    iintro ⟨H0, H1, H2, H3, H4, ⟨%e5, H5⟩, ⟨%e6, H6⟩, ⟨%e7, H7⟩, ⟨%e8, H8⟩, ⟨%e9, H9⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_HeadIdeal`'s statement (Defs.lean) at any `F` — Proof.lean cites it at `Bits`:
    `theorem Cert.Proof.claim : Cert.Claim := ⟨Cert.HeadIdeal.Gen.facts, fun m ρ _ => Cert.HeadIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.HeadIdeal.Gen

end
-- ==== Proof.HeadIdealValue.lean ====
/- What the run of the head's kernel leaves in each result, block by block. -/
module

public import proofs.«01_k».proof.Proof.HeadIdealFrame
public import Idealize.ShloMosaic.Lib.Pipeline.Value

@[expose] public section

noncomputable section

namespace Cert.HeadIdeal.Value

open Cert.HeadIdeal Cert.HeadIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 3 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 3 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed5, outsAt0_B m c t h0]

/-- The index map sends distinct grid points to distinct block indices (decided over the 3 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S3x512x2560.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 3 = 0) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t)) := by
  simp only [flushed6, outsAt0_A m c t h0]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 3 = 0) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed6, outsAt0_B m c t h0]

/-- The index map sends distinct grid points to distinct block indices (decided over the 3 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S3x512x2560.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 3 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 3 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed7, outsAt0_B m c t h0]

/-- The index map sends distinct grid points to distinct block indices (decided over the 3 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S3x512x20.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 3), read through the window's block. -/
theorem flushed8 (c : Dev nD) (t : Fin cfg0.N) :
    (dats m 0 c).flushed 8 t = (cfg0.win 8).cut (grid0.coords t) ((outsAt0 m c t.val t.isLt).2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 3 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 3 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed8, outsAt0_B m c t h0]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S1x2560.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 4), read through the window's block. -/
theorem flushed9 (c : Dev nD) (t : Fin cfg0.N) :
    (dats m 0 c).flushed 9 t = (cfg0.win 9).cut (grid0.coords t) ((outsAt0 m c t.val t.isLt).2.2.2.2) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 3 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 3 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S1x2560.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v4_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v4_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v4_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v4_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v4_4) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_v4_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.HeadIdeal.Value

end
-- ==== Proof.HeadOut.lean ====
/- What one grid point of the head's kernel leaves in its three blocks of results, in both of its cases. -/
module
public import proofs.«01_k».proof.Proof.HeadBlock
public import proofs.«01_k».proof.Proof.HeadIdealValue
@[expose] public section
set_option maxRecDepth 16384
noncomputable section
namespace Cert.HeadIdeal.Value
open Cert.HeadIdeal Cert.HeadIdeal.Gen Idealize.ShloMosaic Idealize.ShloMosaic.TcCoe Idealize.SL.Sem
open Cert.HeadMath

/-- A load of a whole array. -/
theorem ld_whole {s : Shape} {e : EltTy} (x : Vec Ideal s e) (off : Fin s.rank → Nat) (inb) (h : ∀ a, off a = 0) :
    View.ld x (Rect.unit (s := s) off s.size inb) = x := by
  funext y
  refine congrArg x (funext fun a => Fin.ext ?_)
  show off a + 1 * (y a).val = (y a).val
  rw [h]; omega

/-- A load of a whole memref that holds `x`. -/
theorem read_whole {κ : Kind} {sp : Space} {s : Shape} {e : EltTy} {mr : Memref sig κ sp s e} (hm : mr.IsWhole) (x : Vec Ideal s e) (off : Fin s.rank → Nat)
    (inb) (h : ∀ a, off a = 0) : View.readAt (Elt Ideal) mr.view (Rect.unit (s := s) off s.size inb).toLoadRect (hm.unread x) = x := by
  rw [View.readAt_eq_ld, hm.read_unread]
  exact ld_whole x off inb h

theorem zeros3 (a : Fin 3) : (![0, 0, 0] : Fin 3 → Nat) a = 0 := by fin_cases a <;> rfl
theorem zeros2 (a : Fin 2) : (![0, 0] : Fin 2 → Nat) a = 0 := by fin_cases a <;> rfl

/-- The whole load of the normalised rows. -/
theorem norm_read (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (x0 : Vec Ideal S1x512x2560 .bf16) :
    arg11.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 (harg1.unread x0) (Scf.trips k0_t1_loop.lb k0_t1_loop.ub k0_t1_loop.st)).1
      (Rect.unit (s := S512x2560) ![0, 0] S512x2560.size inb_S512x2560_S512x2560_0_0).toLoadRect = normG x0 := by
  rw [View.readCov_eq_canon', canon_norm]
  exact ld_whole (normG x0) _ _ zeros2

/-- The stores of the second loop, at what the loop reads. -/
theorem stores (𝒱 : Variants) (c : Dev nD) (bd : Option 𝒱.V) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole)
  (x0 : Vec Ideal S1x512x2560 .bf16) (x1 : Vec Ideal S1x1x512 .i32) (x2 : Vec Ideal S1x2560 .f32) (x3 : Vec Ideal S1x2560 .f32) (x4 : Vec Ideal S1x8x2560 .f32)
  (v57 : FVec Ideal S8x2560 .f32) (v61 : FVec Ideal S8x1 .f32) (X11 : Vec Ideal S512x2560 .f32) (X12 : Vec Ideal S512x256 .f32)
  (h57 : v57 = docV x1 x2 x3 (normG x0) x4) (h61 : v61 = docmeanV x1 x2 x3 (normG x0) x4) (h11 : X11 = normG x0) (h12 : X12 = colG x0 x1) :
  View.PiecesOf (dhwG (tok x0 x1 x2 x3 x4)) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 (harg11.unread X11) (harg12.unread X12) (Scf.trips k0_t2_loop.lb k0_t2_loop.ub k0_t2_loop.st)).1
  ∧ View.PiecesOf (codesG (tok x0 x1 x2 x3 x4)) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 (harg11.unread X11) (harg12.unread X12) (Scf.trips k0_t2_loop.lb k0_t2_loop.ub k0_t2_loop.st)).2.1
  ∧ View.PiecesOf (scalesG (tok x0 x1 x2 x3 x4)) (pb_k0_t2 (F := Ideal) 𝒱 c bd i arg1 harg1 arg2 harg2 arg3 harg3 arg4 harg4 arg5 harg5 arg6 harg6 arg7 harg7 arg8 harg8 arg9 harg9 arg10 harg10 arg11 harg11 arg12 harg12 v57 v61 (harg11.unread X11) (harg12.unread X12) (Scf.trips k0_t2_loop.lb k0_t2_loop.ub k0_t2_loop.st)).2.2 := by
  subst h57 h61 h11 h12
  exact loop2 𝒱 c bd i arg1 harg1 arg2 harg2 arg3 harg3 arg4 harg4 arg5 harg5 arg6 harg6 arg7 harg7 arg8 harg8 arg9 harg9 arg10 harg10 arg11 harg11 arg12 harg12 _ _ _ _ _ (chunk harg11 harg12 x0 x1 x2 x3 x4) _ (Nat.le_refl _)

/-- What a point leaves, in the case of the first point. -/
theorem out_A (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec Ideal S1x512x2560 .bf16) (x1 : Vec Ideal S1x1x512 .i32) (x2 : Vec Ideal S1x2560 .f32) (x3 : Vec Ideal S1x2560 .f32) (x4 : Vec Ideal S1x8x2560 .f32) :
    out0_A_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = dhwG (tok x0 x1 x2 x3 x4)
    ∧ out0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = codesG (tok x0 x1 x2 x3 x4)
    ∧ out0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = scalesG (tok x0 x1 x2 x3 x4) := by
  have e0 := read_whole harg2 x1 _ inb_S1x1x512_S1x1x512_0_0_0 zeros3
  have e1 := read_whole harg3 x2 _ inb_S1x2560_S1x2560_0_0 zeros2
  have e2 := read_whole harg4 x3 _ inb_S1x2560_S1x2560_0_0 zeros2
  have e3 := read_whole harg5 x4 _ inb_S1x8x2560_S1x8x2560_0_0_0 zeros3
  have e4 := norm_read Variants.none c none i arg1 harg1 arg2 harg2 arg3 harg3 arg4 harg4 arg5 harg5 arg6 harg6 arg7 harg7 arg8 harg8 arg9 harg9 arg10 harg10 arg11 harg11 arg12 harg12 x0
  have h57 : kernelRun0_A.sl.r_8 (F := Ideal) c i arg1 harg1 arg2 harg2 arg3 harg3 arg4 harg4 arg5 harg5 arg6 harg6 arg7 harg7 arg8 harg8 arg9 harg9 arg10 harg10 arg11 harg11 arg12 harg12 x0 x1 x2 x3 x4 = docV x1 x2 x3 (normG x0) x4 := by
    unfold kernelRun0_A.sl.r_8 kernelRun0_A.sl.r_1 kernelRun0_A.sl.r_2 kernelRun0_A.sl.r_4 kernelRun0_A.sl.r_5 kernelRun0_A.sl.r_6
    erw [e0, e1, e2, e3, e4]
  have h61 : kernelRun0_A.sl.r_9 (F := Ideal) c i arg1 harg1 arg2 harg2 arg3 harg3 arg4 harg4 arg5 harg5 arg6 harg6 arg7 harg7 arg8 harg8 arg9 harg9 arg10 harg10 arg11 harg11 arg12 harg12 x0 x1 x2 x3 x4 = docmeanV x1 x2 x3 (normG x0) x4 := by
    unfold kernelRun0_A.sl.r_9 kernelRun0_A.sl.r_1 kernelRun0_A.sl.r_2 kernelRun0_A.sl.r_4 kernelRun0_A.sl.r_5 kernelRun0_A.sl.r_6
    erw [e0, e1, e2, e3, e4]
  have hr : kernelRun0_A.sl.r (F := Ideal) c arg2 harg2 x1 = k0_pay216 x1 := by
    unfold kernelRun0_A.sl.r
    erw [e0]
  have h12 := canon_col Variants.none c none i arg1 harg1 arg2 harg2 arg3 harg3 arg4 harg4 arg5 harg5 arg6 harg6 arg7 harg7 arg8 harg8 arg9 harg9 arg10 harg10 arg11 harg11 arg12 harg12 x0 x1
  rw [← hr] at h12
  obtain ⟨p5, p6, p7⟩ := stores Variants.none c none i arg1 harg1 arg2 harg2 arg3 harg3 arg4 harg4 arg5 harg5 arg6 harg6 arg7 harg7 arg8 harg8 arg9 harg9 arg10 harg10 arg11 harg11 arg12 harg12
    x0 x1 x2 x3 x4 _ _ _ _ h57 h61 (canon_norm Variants.none c none i arg1 harg1 arg2 harg2 arg3 harg3 arg4 harg4 arg5 harg5 arg6 harg6 arg7 harg7 arg8 harg8 arg9 harg9 arg10 harg10 arg11 harg11 arg12 harg12 x0) h12
  refine ⟨?_, ?_, ?_⟩
  · have hcov := cover0_A_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4
    unfold out0_A_5
    rw [View.read_writes_eq_canon _ _ _ hcov]
    funext y
    refine View.canon_apply_of_pieces (dhwG _) _ (View.PiecesOf.mem (G := dhwG (tok x0 x1 x2 x3 x4)) ?_) y (hcov y)
    unfold kernelRun0_A
    exact p5
  · have hcov := cover0_A_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4
    unfold out0_A_6
    rw [View.read_writes_eq_canon _ _ _ hcov]
    funext y
    refine View.canon_apply_of_pieces (codesG _) _ (View.PiecesOf.mem (G := codesG (tok x0 x1 x2 x3 x4)) ?_) y (hcov y)
    unfold kernelRun0_A
    exact p6
  · have hcov := cover0_A_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4
    unfold out0_A_7
    rw [View.read_writes_eq_canon _ _ _ hcov]
    funext y
    refine View.canon_apply_of_pieces (scalesG _) _ (View.PiecesOf.mem (G := scalesG (tok x0 x1 x2 x3 x4)) ?_) y (hcov y)
    unfold kernelRun0_A
    exact p7

/-- What a point leaves, in the case of a later point. -/
theorem out_B (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec Ideal S1x512x2560 .bf16) (x1 : Vec Ideal S1x1x512 .i32) (x2 : Vec Ideal S1x2560 .f32) (x3 : Vec Ideal S1x2560 .f32) (x4 : Vec Ideal S1x8x2560 .f32) (x8 x9 : Vec Ideal S1x2560 .f32) :
    out0_B_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9 = dhwG (tok x0 x1 x2 x3 x4)
    ∧ out0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9 = codesG (tok x0 x1 x2 x3 x4)
    ∧ out0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9 = scalesG (tok x0 x1 x2 x3 x4) := by
  have e0 := read_whole harg2 x1 _ inb_S1x1x512_S1x1x512_0_0_0 zeros3
  have e1 := read_whole harg3 x2 _ inb_S1x2560_S1x2560_0_0 zeros2
  have e2 := read_whole harg4 x3 _ inb_S1x2560_S1x2560_0_0 zeros2
  have e3 := read_whole harg5 x4 _ inb_S1x8x2560_S1x8x2560_0_0_0 zeros3
  have e4 := norm_read Variants.none c none i arg1 harg1 arg2 harg2 arg3 harg3 arg4 harg4 arg5 harg5 arg6 harg6 arg7 harg7 arg8 harg8 arg9 harg9 arg10 harg10 arg11 harg11 arg12 harg12 x0
  have h57 : kernelRun0_B.sl.r_8 (F := Ideal) c i arg1 harg1 arg2 harg2 arg3 harg3 arg4 harg4 arg5 harg5 arg6 harg6 arg7 harg7 arg8 harg8 arg9 harg9 arg10 harg10 arg11 harg11 arg12 harg12 x0 x1 x2 x3 x4 = docV x1 x2 x3 (normG x0) x4 := by
    unfold kernelRun0_B.sl.r_8 kernelRun0_B.sl.r_1 kernelRun0_B.sl.r_2 kernelRun0_B.sl.r_4 kernelRun0_B.sl.r_5 kernelRun0_B.sl.r_6
    erw [e0, e1, e2, e3, e4]
  have h61 : kernelRun0_B.sl.r_9 (F := Ideal) c i arg1 harg1 arg2 harg2 arg3 harg3 arg4 harg4 arg5 harg5 arg6 harg6 arg7 harg7 arg8 harg8 arg9 harg9 arg10 harg10 arg11 harg11 arg12 harg12 x0 x1 x2 x3 x4 = docmeanV x1 x2 x3 (normG x0) x4 := by
    unfold kernelRun0_B.sl.r_9 kernelRun0_B.sl.r_1 kernelRun0_B.sl.r_2 kernelRun0_B.sl.r_4 kernelRun0_B.sl.r_5 kernelRun0_B.sl.r_6
    erw [e0, e1, e2, e3, e4]
  have hr : kernelRun0_B.sl.r (F := Ideal) c arg2 harg2 x1 = k0_pay216 x1 := by
    unfold kernelRun0_B.sl.r
    erw [e0]
  have h12 := canon_col Variants.none c none i arg1 harg1 arg2 harg2 arg3 harg3 arg4 harg4 arg5 harg5 arg6 harg6 arg7 harg7 arg8 harg8 arg9 harg9 arg10 harg10 arg11 harg11 arg12 harg12 x0 x1
  rw [← hr] at h12
  obtain ⟨p5, p6, p7⟩ := stores Variants.none c none i arg1 harg1 arg2 harg2 arg3 harg3 arg4 harg4 arg5 harg5 arg6 harg6 arg7 harg7 arg8 harg8 arg9 harg9 arg10 harg10 arg11 harg11 arg12 harg12
    x0 x1 x2 x3 x4 _ _ _ _ h57 h61 (canon_norm Variants.none c none i arg1 harg1 arg2 harg2 arg3 harg3 arg4 harg4 arg5 harg5 arg6 harg6 arg7 harg7 arg8 harg8 arg9 harg9 arg10 harg10 arg11 harg11 arg12 harg12 x0) h12
  refine ⟨?_, ?_, ?_⟩
  · have hcov := cover0_B_5 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9
    unfold out0_B_5
    rw [View.read_writes_eq_canon _ _ _ hcov]
    funext y
    refine View.canon_apply_of_pieces (dhwG _) _ (View.PiecesOf.mem (G := dhwG (tok x0 x1 x2 x3 x4)) ?_) y (hcov y)
    unfold kernelRun0_B
    exact p5
  · have hcov := cover0_B_6 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9
    unfold out0_B_6
    rw [View.read_writes_eq_canon _ _ _ hcov]
    funext y
    refine View.canon_apply_of_pieces (codesG _) _ (View.PiecesOf.mem (G := codesG (tok x0 x1 x2 x3 x4)) ?_) y (hcov y)
    unfold kernelRun0_B
    exact p6
  · have hcov := cover0_B_7 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9
    unfold out0_B_7
    rw [View.read_writes_eq_canon _ _ _ hcov]
    funext y
    refine View.canon_apply_of_pieces (scalesG _) _ (View.PiecesOf.mem (G := scalesG (tok x0 x1 x2 x3 x4)) ?_) y (hcov y)
    unfold kernelRun0_B
    exact p7

end Cert.HeadIdeal.Value
-- ==== Proof.HeadFinal.lean ====
/- What the head's first three result arrays hold after the run, element by element. -/
module
public import proofs.«01_k».proof.Proof.HeadOut
public import Idealize.ShloMosaic.Lib.StableHlo.ReadAt
public import Idealize.ShloMosaic.Lib.KernelVsHost
@[expose] public section
set_option maxRecDepth 16384
noncomputable section
namespace Cert.HeadIdeal.Value
open Cert.HeadIdeal Cert.HeadIdeal.Gen Idealize.ShloMosaic Idealize.ShloMosaic.TcCoe Idealize.SL.Sem
open Idealize.ShloMosaic.Pipeline (Dat)
open Cert.HeadMath

/-- The batch's rows of the gradient of the normalised rows. -/
def gDoc (a4 : Vec Ideal S3x5x2560 .f32) (b : Fin 3) (n : ℕ) (q : Fin 2560) : EReal := if h : n < 5 then a4 (ix3 b ⟨n, h⟩ q) else 0

/-- The gradient over the tokens of batch `b`, from the arguments. -/
def tokK (a0 : Vec Ideal S3x512x2560 .bf16) (a1 a2 : Vec Ideal S2560 .f32) (a3 : Vec Ideal S3x512 .i32) (a4 : Vec Ideal S3x5x2560 .f32) (b : Fin 3)
    (s : Fin 512) (q : Fin 2560) : EReal :=
  dh eps (fun d => a0 (ix3 b s d)) (fun d => pick (fun s => a3 (ix2 b s)) s (fun n =>
    doc (fun s => a3 (ix2 b s)) (fun s => xhat eps (fun d => a0 (ix3 b s d))) (fun q => a1 (ix1 q)) (fun q => a2 (ix1 q)) (gDoc a4 b n) n d)) q

theorem tok_eq (x0 : Vec Ideal S1x512x2560 .bf16) (x1 : Vec Ideal S1x1x512 .i32) (x2 x3 : Vec Ideal S1x2560 .f32) (x4 : Vec Ideal S1x8x2560 .f32)
    (a0 : Vec Ideal S3x512x2560 .bf16) (a1 a2 : Vec Ideal S2560 .f32) (a3 : Vec Ideal S3x512 .i32) (a4 : Vec Ideal S3x5x2560 .f32) (b : Fin 3)
    (h0 : ∀ s d, x0 (ix3 0 s d) = a0 (ix3 b s d)) (h1 : ∀ s, x1 (ix3 0 0 s) = a3 (ix2 b s)) (h2 : ∀ q, x2 (ix2 0 q) = a1 (ix1 q))
    (h3 : ∀ q, x3 (ix2 0 q) = a2 (ix1 q)) (h4 : ∀ (n : Fin 8) (n' : Fin 5) q, n.val = n'.val → x4 (ix3 0 n q) = a4 (ix3 b n' q)) :
    tok x0 x1 x2 x3 x4 = tokK a0 a1 a2 a3 a4 b := by
  funext s q
  unfold tok tokK
  have e0 : ∀ s, feat x0 s = fun d => a0 (ix3 b s d) := fun s => funext fun d => h0 s d
  have e1 : idsOf x1 = fun s => a3 (ix2 b s) := funext h1
  have e4 : ∀ n < 5, gRow x4 n = gDoc a4 b n := fun n hn => by
    funext q
    unfold gRow gDoc
    rw [dif_pos (show n < 8 by omega), dif_pos hn]
    exact h4 _ _ q rfl
  simp only [e0, e1, h2, h3]
  refine congrArg (fun dx => dh eps _ dx q) (funext fun d => ?_)
  refine pick_congr _ _ _ _ fun n hn _ => ?_
  rw [e4 n hn]

variable (m : (ℓ : Loc nD τ sig) → Buf (Elt Ideal) ℓ)

/-- The windows' block indices at every grid point. -/
theorem index_facts : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel)

theorem V_ids (c : Dev nD) : V m c main_v1 = shapeCast S3x1x512 (m ((c : Thread nD τ).loc main_arg3)) shapeCasts_S3x512_S3x1x512 := by
  after_reads_simp
  rfl

theorem V_gamma (c : Dev nD) : V m c main_v2 = shapeCast S1x2560 (m ((c : Thread nD τ).loc main_arg1)) shapeCasts_S2560_S1x2560 := by
  after_reads_simp
  rfl

theorem V_beta (c : Dev nD) : V m c main_v3 = shapeCast S1x2560 (m ((c : Thread nD τ).loc main_arg2)) shapeCasts_S2560_S1x2560 := by
  after_reads_simp
  rfl

theorem V_grad (c : Dev nD) : V m c main_v0 = pad S3x8x2560 ![0, 0, 0] ![0, 3, 0] ![0, 0, 0] (m ((c : Thread nD τ).loc main_arg4))
    (sitofp (F := Ideal) .f32 (constantI S_ 32 0#32)) pads_S3x5x2560_S3x8x2560_000_030_000 h_S_ := by
  after_reads_simp
  rfl

/-- The block of tokens at a point is its batch's. -/
theorem iblk0_apply (c : Dev nD) (t : Fin cfg0.N) (b : Fin 3) (hb : b.val = t.val) (s : Fin 512) (d : Fin 2560) :
    iblk m c 0 t (ix3 0 s d : S1x512x2560.Idx) = m ((c : Thread nD τ).loc main_arg0) (ix3 b s d : S3x512x2560.Idx) := by
  obtain ⟨e0, e1, e2, -⟩ := index_facts t
  have h : iblk m c 0 t (ix3 0 s d : S1x512x2560.Idx) = V m c main_arg0 (ix3 b s d : S3x512x2560.Idx) := by
    show V m c main_arg0 (((cfg0.win 0).blk t).view.emb (ix3 0 s d : S1x512x2560.Idx)) = _
    refine congrArg (V m c main_arg0) (funext fun x => Fin.ext ?_)
    match x with
    | ⟨0, _⟩ => show win0_0.index t (0 : Fin 3) * 1 + 1 * 0 = b.val; omega
    | ⟨1, _⟩ => show win0_0.index t (1 : Fin 3) * 512 + 1 * s.val = s.val; omega
    | ⟨2, _⟩ => show win0_0.index t (2 : Fin 3) * 2560 + 1 * d.val = d.val; omega
  rw [h, V_main_arg0]

/-- The document ids at a point are its batch's. -/
theorem iblk1_apply (c : Dev nD) (t : Fin cfg0.N) (b : Fin 3) (hb : b.val = t.val) (s : Fin 512) :
    iblk m c 1 t (ix3 0 0 s : S1x1x512.Idx) = m ((c : Thread nD τ).loc main_arg3) (ix2 b s : S3x512.Idx) := by
  obtain ⟨-, -, -, e0, e1, e2, -⟩ := index_facts t
  have h : iblk m c 1 t (ix3 0 0 s : S1x1x512.Idx) = V m c main_v1 (ix3 b 0 s : S3x1x512.Idx) := by
    show V m c main_v1 (((cfg0.win 1).blk t).view.emb (ix3 0 0 s : S1x1x512.Idx)) = _
    refine congrArg (V m c main_v1) (funext fun x => Fin.ext ?_)
    match x with
    | ⟨0, _⟩ => show win0_1.index t (0 : Fin 3) * 1 + 1 * 0 = b.val; omega
    | ⟨1, _⟩ => show win0_1.index t (1 : Fin 3) * 1 + 1 * 0 = 0; omega
    | ⟨2, _⟩ => show win0_1.index t (2 : Fin 3) * 512 + 1 * s.val = s.val; omega
  rw [h, V_ids]
  refine shapeCast_apply _ _ (ix3 b 0 s : S3x1x512.Idx) (ix2 b s : S3x512.Idx) ?_
  refine (Shape.rowMajor_val_two _).trans (Eq.trans ?_ (Shape.rowMajor_val_three _).symm)
  show b.val * 512 + s.val = (b.val * 1 + 0) * 512 + s.val
  omega

/-- The scale row of the normalisation at a point. -/
theorem iblk2_apply (c : Dev nD) (t : Fin cfg0.N) (q : Fin 2560) :
    iblk m c 2 t (ix2 0 q : S1x2560.Idx) = m ((c : Thread nD τ).loc main_arg1) (ix1 q : S2560.Idx) := by
  obtain ⟨-, -, -, -, -, -, e0, e1, -⟩ := index_facts t
  have h : iblk m c 2 t (ix2 0 q : S1x2560.Idx) = V m c main_v2 (ix2 0 q : S1x2560.Idx) := by
    show V m c main_v2 (((cfg0.win 2).blk t).view.emb (ix2 0 q : S1x2560.Idx)) = _
    refine congrArg (V m c main_v2) (funext fun x => Fin.ext ?_)
    match x with
    | ⟨0, _⟩ => show win0_2.index t (0 : Fin 2) * 1 + 1 * 0 = 0; omega
    | ⟨1, _⟩ => show win0_2.index t (1 : Fin 2) * 2560 + 1 * q.val = q.val; omega
  rw [h, V_gamma]
  refine shapeCast_apply _ _ (ix2 0 q : S1x2560.Idx) (ix1 q : S2560.Idx) ?_
  refine (Shape.rowMajor_val_one _).trans (Eq.trans ?_ (Shape.rowMajor_val_two _).symm)
  show q.val = 0 * 2560 + q.val
  omega

/-- The shift row of the normalisation at a point. -/
theorem iblk3_apply (c : Dev nD) (t : Fin cfg0.N) (q : Fin 2560) :
    iblk m c 3 t (ix2 0 q : S1x2560.Idx) = m ((c : Thread nD τ).loc main_arg2) (ix1 q : S2560.Idx) := by
  obtain ⟨-, -, -, -, -, -, -, -, e0, e1, -⟩ := index_facts t
  have h : iblk m c 3 t (ix2 0 q : S1x2560.Idx) = V m c main_v3 (ix2 0 q : S1x2560.Idx) := by
    show V m c main_v3 (((cfg0.win 3).blk t).view.emb (ix2 0 q : S1x2560.Idx)) = _
    refine congrArg (V m c main_v3) (funext fun x => Fin.ext ?_)
    match x with
    | ⟨0, _⟩ => show win0_3.index t (0 : Fin 2) * 1 + 1 * 0 = 0; omega
    | ⟨1, _⟩ => show win0_3.index t (1 : Fin 2) * 2560 + 1 * q.val = q.val; omega
  rw [h, V_beta]
  refine shapeCast_apply _ _ (ix2 0 q : S1x2560.Idx) (ix1 q : S2560.Idx) ?_
  refine (Shape.rowMajor_val_one _).trans (Eq.trans ?_ (Shape.rowMajor_val_two _).symm)
  show q.val = 0 * 2560 + q.val
  omega

/-- The gradient's rows at a point: the first five are its batch's. -/
theorem iblk4_apply (c : Dev nD) (t : Fin cfg0.N) (b : Fin 3) (hb : b.val = t.val) (n : Fin 8) (n' : Fin 5) (q : Fin 2560) (hn : n.val = n'.val) :
    iblk m c 4 t (ix3 0 n q : S1x8x2560.Idx) = m ((c : Thread nD τ).loc main_arg4) (ix3 b n' q : S3x5x2560.Idx) := by
  obtain ⟨-, -, -, -, -, -, -, -, -, -, e0, e1, e2, -⟩ := index_facts t
  have h : iblk m c 4 t (ix3 0 n q : S1x8x2560.Idx) = V m c main_v0 (ix3 b n q : S3x8x2560.Idx) := by
    show V m c main_v0 (((cfg0.win 4).blk t).view.emb (ix3 0 n q : S1x8x2560.Idx)) = _
    refine congrArg (V m c main_v0) (funext fun x => Fin.ext ?_)
    match x with
    | ⟨0, _⟩ => show win0_4.index t (0 : Fin 3) * 1 + 1 * 0 = b.val; omega
    | ⟨1, _⟩ => show win0_4.index t (1 : Fin 3) * 8 + 1 * n.val = n.val; omega
    | ⟨2, _⟩ => show win0_4.index t (2 : Fin 3) * 2560 + 1 * q.val = q.val; omega
  rw [h, V_grad]
  refine pad_apply_of_inside _ _ _ _ _ _ _ (ix3 b n q : S3x8x2560.Idx) (ix3 b n' q : S3x5x2560.Idx) fun a => ?_
  match a with
  | ⟨0, _⟩ => show b.val = 0 + b.val * 1; omega
  | ⟨1, _⟩ => show n.val = 0 + n'.val * 1; omega
  | ⟨2, _⟩ => show q.val = 0 + q.val * 1; omega

/-- The gradient over the tokens, from the arguments in memory. -/
abbrev tokM (c : Dev nD) : Fin 3 → Fin 512 → Fin 2560 → EReal :=
  tokK (m ((c : Thread nD τ).loc main_arg0)) (m ((c : Thread nD τ).loc main_arg1)) (m ((c : Thread nD τ).loc main_arg2))
    (m ((c : Thread nD τ).loc main_arg3)) (m ((c : Thread nD τ).loc main_arg4))

theorem tok_blk (c : Dev nD) (t : Fin cfg0.N) (b : Fin 3) (hb : b.val = t.val) :
    tok (iblk m c 0 t) (iblk m c 1 t) (iblk m c 2 t) (iblk m c 3 t) (iblk m c 4 t) = tokM m c b :=
  tok_eq _ _ _ _ _ _ _ _ _ _ b (iblk0_apply m c t b hb) (iblk1_apply m c t b hb) (iblk2_apply m c t) (iblk3_apply m c t)
    fun n n' q hn => iblk4_apply m c t b hb n n' q hn

/-- The dequantised gradients, all batches. -/
def dhwR (T : Fin 3 → Fin 512 → Fin 2560 → EReal) : Vec Ideal S3x512x2560 .bf16 := fun j =>
  (codeT (T (j 0)) (j 1) (j 2) * scaleT (T (j 0)) (j 1) (j 2) : EReal)

/-- The codes, all batches. -/
def codesR (T : Fin 3 → Fin 512 → Fin 2560 → EReal) : Vec Ideal S3x512x2560 .fp8e5m2 := fun j => (codeT (T (j 0)) (j 1) (j 2) : EReal)

/-- The scales, all batches. -/
def scalesR (T : Fin 3 → Fin 512 → Fin 2560 → EReal) : Vec Ideal S3x512x20 .f32 := fun j =>
  (scaleT (T (j 0)) (j 1) ⟨128 * (j 2).val, by have : (j 2).val < 20 := (j 2).isLt; omega⟩ : EReal)

/-- What a point computes for window 5. -/
theorem block5 (c : Dev nD) (t : Fin cfg0.N) (b : Fin 3) (hb : b.val = t.val) :
    (dats m 0 c).flushed 5 t = (cfg0.win 5).cut (grid0.coords t) (dhwG (tokM m c b)) := by
  by_cases h0 : t.val % 3 = 0
  · rw [flushed5_A m c t h0, (out_A c (grid0.coords t) _ _ _ _ _ _ _ _ _ _ _ _ _ _ _ _ _ _ _ _ _ _ _ _ _ _ _ _ _ _).1, tok_blk m c t b hb]
  · rw [flushed5_B m c t h0, (out_B c (grid0.coords t) _ _ _ _ _ _ _ _ _ _ _ _ _ _ _ _ _ _ _ _ _ _ _ _ _ _ _ _ _ _ _ _).1, tok_blk m c t b hb]

theorem flushed_eq5 (c : Dev nD) (t : Fin cfg0.N) :
    (dats m 0 c).flushed 5 t = ((cfg0.win 5).blk t).view.read (Elt Ideal) (dhwR (tokM m c)) := by
  obtain ⟨-, -, -, -, -, -, -, -, -, -, -, -, -, e0, e1, e2, -⟩ := index_facts t
  have ht : t.val < 3 := t.isLt
  rw [block5 m c t ⟨t.val, ht⟩ rfl]
  funext j
  have hj : (j 0).val < 1 := (j 0).isLt
  have hemb : ((cfg0.win 5).blk t).view.emb j = (ix3 (⟨t.val, ht⟩ : Fin 3) (⟨(j 1).val, (j 1).isLt⟩ : Fin 512) (⟨(j 2).val, (j 2).isLt⟩ : Fin 2560) : S3x512x2560.Idx) := by
    refine funext fun x => Fin.ext ?_
    match x with
    | ⟨0, _⟩ => show win0_5.index t (0 : Fin 3) * 1 + 1 * (j 0).val = t.val; omega
    | ⟨1, _⟩ => show win0_5.index t (1 : Fin 3) * 512 + 1 * (j 1).val = (j 1).val; omega
    | ⟨2, _⟩ => show win0_5.index t (2 : Fin 3) * 2560 + 1 * (j 2).val = (j 2).val; omega
  exact (congrArg (dhwR (tokM m c)) hemb).symm

theorem covered5 (i : S3x512x2560.Idx) : ∃ t : Fin cfg0.N, (cfg0.win 5).flush t = true ∧ i ∈ ((cfg0.win 5).blk t).view.set := by
  have h0 : (i 0).val < 3 := (i 0).isLt
  have h1 : (i 1).val < 512 := (i 1).isLt
  have h2 : (i 2).val < 2560 := (i 2).isLt
  refine ⟨⟨(i 0).val, h0⟩, flush0_5 _, ?_⟩
  obtain ⟨-, -, -, -, -, -, -, -, -, -, -, -, -, e0, e1, e2, -⟩ := index_facts ⟨(i 0).val, h0⟩
  show i ∈ ((View.whole main_v4_0).slice (win0_5.rect (⟨(i 0).val, h0⟩ : Fin grid0.N))).set
  rw [View.set_slice_whole, Rect.mem_set_unit]
  intro a
  match a with
  | ⟨0, _⟩ =>
    show win0_5.index _ (0 : Fin 3) * 1 ≤ (i 0).val ∧ (i 0).val < win0_5.index _ (0 : Fin 3) * 1 + 1
    rw [e0]; show (i 0).val * 1 ≤ _ ∧ _ < (i 0).val * 1 + 1; omega
  | ⟨1, _⟩ =>
    show win0_5.index _ (1 : Fin 3) * 512 ≤ (i 1).val ∧ (i 1).val < win0_5.index _ (1 : Fin 3) * 512 + 512
    rw [e1]; omega
  | ⟨2, _⟩ =>
    show win0_5.index _ (2 : Fin 3) * 2560 ≤ (i 2).val ∧ (i 2).val < win0_5.index _ (2 : Fin 3) * 2560 + 2560
    rw [e2]; omega

/-- The result array of window 5 after the run. -/
theorem final5 (c : Dev nD) : (dats m 0 c).arrAt 5 cfg0.N = dhwR (tokM m c) :=
  (dats m 0 c).arrAt_eq_of_cover 5 (dhwR (tokM m c)) (fun t _ => flushed_eq5 m c t) covered5

/-- What a point computes for window 6. -/
theorem block6 (c : Dev nD) (t : Fin cfg0.N) (b : Fin 3) (hb : b.val = t.val) :
    (dats m 0 c).flushed 6 t = (cfg0.win 6).cut (grid0.coords t) (codesG (tokM m c b)) := by
  by_cases h0 : t.val % 3 = 0
  · rw [flushed6_A m c t h0, (out_A c (grid0.coords t) _ _ _ _ _ _ _ _ _ _ _ _ _ _ _ _ _ _ _ _ _ _ _ _ _ _ _ _ _ _).2.1, tok_blk m c t b hb]
  · rw [flushed6_B m c t h0, (out_B c (grid0.coords t) _ _ _ _ _ _ _ _ _ _ _ _ _ _ _ _ _ _ _ _ _ _ _ _ _ _ _ _ _ _ _ _).2.1, tok_blk m c t b hb]

theorem flushed_eq6 (c : Dev nD) (t : Fin cfg0.N) :
    (dats m 0 c).flushed 6 t = ((cfg0.win 6).blk t).view.read (Elt Ideal) (codesR (tokM m c)) := by
  obtain ⟨-, -, -, -, -, -, -, -, -, -, -, -, -, -, -, -, e0, e1, e2, -⟩ := index_facts t
  have ht : t.val < 3 := t.isLt
  rw [block6 m c t ⟨t.val, ht⟩ rfl]
  funext j
  have hj : (j 0).val < 1 := (j 0).isLt
  have hemb : ((cfg0.win 6).blk t).view.emb j = (ix3 (⟨t.val, ht⟩ : Fin 3) (⟨(j 1).val, (j 1).isLt⟩ : Fin 512) (⟨(j 2).val, (j 2).isLt⟩ : Fin 2560) : S3x512x2560.Idx) := by
    refine funext fun x => Fin.ext ?_
    match x with
    | ⟨0, _⟩ => show win0_6.index t (0 : Fin 3) * 1 + 1 * (j 0).val = t.val; omega
    | ⟨1, _⟩ => show win0_6.index t (1 : Fin 3) * 512 + 1 * (j 1).val = (j 1).val; omega
    | ⟨2, _⟩ => show win0_6.index t (2 : Fin 3) * 2560 + 1 * (j 2).val = (j 2).val; omega
  exact (congrArg (codesR (tokM m c)) hemb).symm

theorem covered6 (i : S3x512x2560.Idx) : ∃ t : Fin cfg0.N, (cfg0.win 6).flush t = true ∧ i ∈ ((cfg0.win 6).blk t).view.set := by
  have h0 : (i 0).val < 3 := (i 0).isLt
  have h1 : (i 1).val < 512 := (i 1).isLt
  have h2 : (i 2).val < 2560 := (i 2).isLt
  refine ⟨⟨(i 0).val, h0⟩, flush0_6 _, ?_⟩
  obtain ⟨-, -, -, -, -, -, -, -, -, -, -, -, -, -, -, -, e0, e1, e2, -⟩ := index_facts ⟨(i 0).val, h0⟩
  show i ∈ ((View.whole main_v4_1).slice (win0_6.rect (⟨(i 0).val, h0⟩ : Fin grid0.N))).set
  rw [View.set_slice_whole, Rect.mem_set_unit]
  intro a
  match a with
  | ⟨0, _⟩ =>
    show win0_6.index _ (0 : Fin 3) * 1 ≤ (i 0).val ∧ (i 0).val < win0_6.index _ (0 : Fin 3) * 1 + 1
    rw [e0]; show (i 0).val * 1 ≤ _ ∧ _ < (i 0).val * 1 + 1; omega
  | ⟨1, _⟩ =>
    show win0_6.index _ (1 : Fin 3) * 512 ≤ (i 1).val ∧ (i 1).val < win0_6.index _ (1 : Fin 3) * 512 + 512
    rw [e1]; omega
  | ⟨2, _⟩ =>
    show win0_6.index _ (2 : Fin 3) * 2560 ≤ (i 2).val ∧ (i 2).val < win0_6.index _ (2 : Fin 3) * 2560 + 2560
    rw [e2]; omega

/-- The result array of window 6 after the run. -/
theorem final6 (c : Dev nD) : (dats m 0 c).arrAt 6 cfg0.N = codesR (tokM m c) :=
  (dats m 0 c).arrAt_eq_of_cover 6 (codesR (tokM m c)) (fun t _ => flushed_eq6 m c t) covered6

/-- What a point computes for window 7. -/
theorem block7 (c : Dev nD) (t : Fin cfg0.N) (b : Fin 3) (hb : b.val = t.val) :
    (dats m 0 c).flushed 7 t = (cfg0.win 7).cut (grid0.coords t) (scalesG (tokM m c b)) := by
  by_cases h0 : t.val % 3 = 0
  · rw [flushed7_A m c t h0, (out_A c (grid0.coords t) _ _ _ _ _ _ _ _ _ _ _ _ _ _ _ _ _ _ _ _ _ _ _ _ _ _ _ _ _ _).2.2, tok_blk m c t b hb]
  · rw [flushed7_B m c t h0, (out_B c (grid0.coords t) _ _ _ _ _ _ _ _ _ _ _ _ _ _ _ _ _ _ _ _ _ _ _ _ _ _ _ _ _ _ _ _).2.2, tok_blk m c t b hb]

theorem flushed_eq7 (c : Dev nD) (t : Fin cfg0.N) :
    (dats m 0 c).flushed 7 t = ((cfg0.win 7).blk t).view.read (Elt Ideal) (scalesR (tokM m c)) := by
  obtain ⟨-, -, -, -, -, -, -, -, -, -, -, -, -, -, -, -, -, -, -, e0, e1, e2⟩ := index_facts t
  have ht : t.val < 3 := t.isLt
  rw [block7 m c t ⟨t.val, ht⟩ rfl]
  funext j
  have hj : (j 0).val < 1 := (j 0).isLt
  have hemb : ((cfg0.win 7).blk t).view.emb j = (ix3 (⟨t.val, ht⟩ : Fin 3) (⟨(j 1).val, (j 1).isLt⟩ : Fin 512) (⟨(j 2).val, (j 2).isLt⟩ : Fin 20) : S3x512x20.Idx) := by
    refine funext fun x => Fin.ext ?_
    match x with
    | ⟨0, _⟩ => show win0_7.index t (0 : Fin 3) * 1 + 1 * (j 0).val = t.val; omega
    | ⟨1, _⟩ => show win0_7.index t (1 : Fin 3) * 512 + 1 * (j 1).val = (j 1).val; omega
    | ⟨2, _⟩ => show win0_7.index t (2 : Fin 3) * 20 + 1 * (j 2).val = (j 2).val; omega
  exact (congrArg (scalesR (tokM m c)) hemb).symm

theorem covered7 (i : S3x512x20.Idx) : ∃ t : Fin cfg0.N, (cfg0.win 7).flush t = true ∧ i ∈ ((cfg0.win 7).blk t).view.set := by
  have h0 : (i 0).val < 3 := (i 0).isLt
  have h1 : (i 1).val < 512 := (i 1).isLt
  have h2 : (i 2).val < 20 := (i 2).isLt
  refine ⟨⟨(i 0).val, h0⟩, flush0_7 _, ?_⟩
  obtain ⟨-, -, -, -, -, -, -, -, -, -, -, -, -, -, -, -, -, -, -, e0, e1, e2⟩ := index_facts ⟨(i 0).val, h0⟩
  show i ∈ ((View.whole main_v4_2).slice (win0_7.rect (⟨(i 0).val, h0⟩ : Fin grid0.N))).set
  rw [View.set_slice_whole, Rect.mem_set_unit]
  intro a
  match a with
  | ⟨0, _⟩ =>
    show win0_7.index _ (0 : Fin 3) * 1 ≤ (i 0).val ∧ (i 0).val < win0_7.index _ (0 : Fin 3) * 1 + 1
    rw [e0]; show (i 0).val * 1 ≤ _ ∧ _ < (i 0).val * 1 + 1; omega
  | ⟨1, _⟩ =>
    show win0_7.index _ (1 : Fin 3) * 512 ≤ (i 1).val ∧ (i 1).val < win0_7.index _ (1 : Fin 3) * 512 + 512
    rw [e1]; omega
  | ⟨2, _⟩ =>
    show win0_7.index _ (2 : Fin 3) * 20 ≤ (i 2).val ∧ (i 2).val < win0_7.index _ (2 : Fin 3) * 20 + 20
    rw [e2]; omega

/-- The result array of window 7 after the run. -/
theorem final7 (c : Dev nD) : (dats m 0 c).arrAt 7 cfg0.N = scalesR (tokM m c) :=
  (dats m 0 c).arrAt_eq_of_cover 7 (scalesR (tokM m c)) (fun t _ => flushed_eq7 m c t) covered7

end Cert.HeadIdeal.Value
end
-- ==== Proof.HeadRef.lean ====
/- What the head's reference computes, element by element. -/
module
public import proofs.«01_k».proof.Proof.HeadFinal
public import proofs.«01_k».proof.Proof.Gen.HeadReferenceIdeal.Value
@[expose] public section
set_option maxRecDepth 16384
noncomputable section
namespace Cert.HeadReferenceIdeal.Value
open Cert.HeadReferenceIdeal Cert.HeadReferenceIdeal.Gen Idealize.ShloMosaic Idealize.ShloMosaic.TcCoe Idealize.SL.Sem
open Cert.HeadMath
open Cert.HeadIdeal.Value (eps bound code blk codeT scaleT select_eq gDoc)

theorem rstd_ref (x : Vec Ideal S3x512x2560 .bf16) (b : Fin 3) (s : Fin 512) (z : Fin 1) :
    (k0_pay2 (F := Ideal) x (ix3 b s z) : EReal) = rstd eps (fun d => (x (ix3 b s d) : EReal)) := by
  unfold rstd xc mean
  rw [← bits_2560]
  pointwise [k0_pay2, k0_pay1]

theorem xhat_ref (x : Vec Ideal S3x512x2560 .bf16) (b : Fin 3) (s : Fin 512) (q : Fin 2560) :
    (k0_pay3 (F := Ideal) x (ix3 b s q) : EReal) = xhat eps (fun d => (x (ix3 b s d) : EReal)) q := by
  unfold xhat
  rw [← rstd_ref x b s 0]
  unfold xc mean
  rw [← bits_2560]
  pointwise [k0_pay3, k0_pay1]

theorem oneh_ref (ids : Vec Ideal S3x512 .i32) (b : Fin 3) (s : Fin 512) (n : Fin 5) :
    (k0_pay4 (F := Ideal) ids (ix3 b s n) : EReal) = oneh (fun s => ids (ix2 b s)) n.val s := by
  pointwise [k0_pay4]
  unfold oneh
  show (((BitVec.setWidth 32 (IntOp.cmpi .eq (ids (ix2 b s)) (BitVec.ofNat 32 n.val))).toInt : ℝ) : EReal) = _
  unfold IntOp.cmpi
  by_cases h : ids (ix2 b s) = BitVec.ofNat 32 n.val
  · rw [if_pos h, h]
    simp
  · have h' : (ids (ix2 b s) == BitVec.ofNat 32 n.val) = false := beq_false_of_ne h
    rw [if_neg h]
    simp only [h']
    simp

theorem cnt_ref (ids : Vec Ideal S3x512 .i32) (b : Fin 3) (n : Fin 5) :
    (k0_pay5 (F := Ideal) ids (ix2 b n) : EReal) = cnt (fun s => ids (ix2 b s)) n.val := by
  pointwise [k0_pay5]
  exact Finset.sum_congr rfl fun s _ => oneh_ref ids b s n

theorem pool_ref (ga be : Vec Ideal S2560 .f32) (ids : Vec Ideal S3x512 .i32) (x : Vec Ideal S3x512x2560 .bf16) (b : Fin 3) (n : Fin 5) (q : Fin 2560) :
    (k0_pay6 (F := Ideal) ga be ids x (ix3 b n q) : EReal)
      = pool (fun s => ids (ix2 b s)) n.val (fun s => xhat eps (fun d => (x (ix3 b s d) : EReal)) q * ga (ix1 q) + be (ix1 q)) := by
  pointwise [k0_pay6]
  simp only [oneh_ref, cnt_ref, xhat_ref]
  rfl

theorem sumsq_ref (ga be : Vec Ideal S2560 .f32) (ids : Vec Ideal S3x512 .i32) (x : Vec Ideal S3x512x2560 .bf16) (b : Fin 3) (n : Fin 5) (z : Fin 1) :
    (Ideal.sqrt (k0_pay7 (F := Ideal) ga be ids x (ix3 b n z) : EReal) : EReal) = nrm (fun q => k0_pay6 (F := Ideal) ga be ids x (ix3 b n q)) := by
  pointwise [k0_pay7]
  rfl

/-- What the reference hands each token: its document's gradient over its document's count. -/
def dyF (v3 : Vec Ideal S3x5x2560 .f32) (v33 : FVec Ideal S3x512x5 .f32) (v34 : FVec Ideal S3x5 .f32)
    (v38 : FVec Ideal S3x5x2560 .f32) (v41 : FVec Ideal S3x5x1 .f32) : FVec Ideal S3x512x2560 .f32 :=
  have v42 : FVec Ideal S3x5x1 .f32 := sqrt v41
  have v43 : FVec Ideal S3x5x2560 .f32 := broadcastTo S3x5x2560 v42 broadcasts_S3x5x1_S3x5x2560
  have v44 : FVec Ideal S3x5x2560 .f32 := divf v38 v43
  have v45 : FVec Ideal S3x5x2560 .f32 := mulf v44 v3
  have v46 : FVec Ideal S3x5 .f32 := multiReduction .add [2] S3x5 v45 0x00000000#32 reduces_S3x5x2560_S3x5 (.inl rfl) rfl
  have v47 : FVec Ideal S3x5x1 .f32 := shapeCast S3x5x1 v46 shapeCasts_S3x5_S3x5x1
  have v48 : FVec Ideal S3x5x2560 .f32 := broadcastTo S3x5x2560 v47 broadcasts_S3x5x1_S3x5x2560
  have v49 : FVec Ideal S3x5x2560 .f32 := mulf v44 v48
  have v50 : FVec Ideal S3x5x2560 .f32 := subf v3 v49
  have v51 : FVec Ideal S3x5x2560 .f32 := broadcastTo S3x5x2560 v42 broadcasts_S3x5x1_S3x5x2560
  have v52 : FVec Ideal S3x5x2560 .f32 := divf v50 v51
  have v53 : FVec Ideal S3x5x1 .f32 := shapeCast S3x5x1 v34 shapeCasts_S3x5_S3x5x1
  have v54 : FVec Ideal S3x5x2560 .f32 := broadcastTo S3x5x2560 v53 broadcasts_S3x5x1_S3x5x2560
  have v55 : FVec Ideal S3x5x2560 .f32 := divf v52 v54
  have cst_17 : FVec Ideal S3x512x2560 .f32 := constant S3x512x2560 .f32 0x00000000#32
  have v56 : FVec Ideal S3x512x2560 .f32 := matmul dot_S3x512x5_S3x5x2560_S3x512x2560_2_1_1_2_0_0 (some .fp32) v33 v55 cst_17
  v56

/-- The reference's gradient of the normalised features. -/
def dxF (v0 : Vec Ideal S2560 .f32) (v56 : FVec Ideal S3x512x2560 .f32) : FVec Ideal S3x512x2560 .f32 :=
  have v57 : FVec Ideal S1x1x2560 .f32 := shapeCast S1x1x2560 v0 shapeCasts_S2560_S1x1x2560
  have v58 : FVec Ideal S3x512x2560 .f32 := broadcastTo S3x512x2560 v57 broadcasts_S1x1x2560_S3x512x2560
  have v59 : FVec Ideal S3x512x2560 .f32 := mulf v56 v58
  v59

/-- The reference's backward pass of the layer norm. -/
def lnF (v19 : FVec Ideal S3x512x1 .f32) (v21 v59 : FVec Ideal S3x512x2560 .f32) : FVec Ideal S3x512x20x128 .f32 :=
  have v60 : FVec Ideal S3x512 .f32 := multiReduction .add [2] S3x512 v59 0x00000000#32 reduces_S3x512x2560_S3x512 (.inl rfl) rfl
  have v61 : FVec Ideal S3x512x1 .f32 := shapeCast S3x512x1 v60 shapeCasts_S3x512_S3x512x1
  have cst_19 : Ideal .f32 := Scalar.ofBits .f32 0x45200000#32
  have v62 : FVec Ideal S3x512x1 .f32 := broadcast S3x512x1 cst_19
  have v63 : FVec Ideal S3x512x1 .f32 := divf v61 v62
  have v64 : FVec Ideal S3x512x2560 .f32 := broadcastTo S3x512x2560 v63 broadcasts_S3x512x1_S3x512x2560
  have v65 : FVec Ideal S3x512x2560 .f32 := subf v59 v64
  have v66 : FVec Ideal S3x512x2560 .f32 := mulf v59 v21
  have v67 : FVec Ideal S3x512 .f32 := multiReduction .add [2] S3x512 v66 0x00000000#32 reduces_S3x512x2560_S3x512 (.inl rfl) rfl
  have v68 : FVec Ideal S3x512x1 .f32 := shapeCast S3x512x1 v67 shapeCasts_S3x512_S3x512x1
  have cst_21 : Ideal .f32 := Scalar.ofBits .f32 0x45200000#32
  have v69 : FVec Ideal S3x512x1 .f32 := broadcast S3x512x1 cst_21
  have v70 : FVec Ideal S3x512x1 .f32 := divf v68 v69
  have v71 : FVec Ideal S3x512x2560 .f32 := broadcastTo S3x512x2560 v70 broadcasts_S3x512x1_S3x512x2560
  have v72 : FVec Ideal S3x512x2560 .f32 := mulf v21 v71
  have v73 : FVec Ideal S3x512x2560 .f32 := subf v65 v72
  have v74 : FVec Ideal S3x512x2560 .f32 := broadcastTo S3x512x2560 v19 broadcasts_S3x512x1_S3x512x2560
  have v75 : FVec Ideal S3x512x2560 .f32 := mulf v74 v73
  have v76 : FVec Ideal S3x512x20x128 .f32 := shapeCast S3x512x20x128 v75 shapeCasts_S3x512x2560_S3x512x20x128
  v76

theorem pay8_eq (v3 : Vec Ideal S3x5x2560 .f32) (v33 : FVec Ideal S3x512x5 .f32) (v34 : FVec Ideal S3x5 .f32) (v38 : FVec Ideal S3x5x2560 .f32)
    (v41 : FVec Ideal S3x5x1 .f32) : k0_pay8 (F := Ideal) v3 v33 v34 v38 v41 = dyF v3 v33 v34 v38 v41 := by
  unfold k0_pay8 dyF
  rfl

theorem pay9_eq (v0 : Vec Ideal S2560 .f32) (v3 : Vec Ideal S3x5x2560 .f32) (v19 : FVec Ideal S3x512x1 .f32) (v21 : FVec Ideal S3x512x2560 .f32)
    (v33 : FVec Ideal S3x512x5 .f32) (v34 : FVec Ideal S3x5 .f32) (v38 : FVec Ideal S3x5x2560 .f32) (v41 : FVec Ideal S3x5x1 .f32) :
    k0_pay9 (F := Ideal) v0 v3 v19 v21 v33 v34 v38 v41 = lnF v19 v21 (dxF v0 (dyF v3 v33 v34 v38 v41)) := by
  unfold k0_pay9 lnF dxF
  rw [pay8_eq]

/-- What the reference hands a token: nothing, or its document's gradient over its document's count. -/
def dyR (x : Vec Ideal S3x512x2560 .bf16) (ga be : Vec Ideal S2560 .f32) (ids : Vec Ideal S3x512 .i32) (g : Vec Ideal S3x5x2560 .f32)
    (b : Fin 3) (s : Fin 512) (d : Fin 2560) : EReal :=
  pick (fun s => ids (ix2 b s)) s (fun n => Ideal.div (dpool
    (fun q => pool (fun s => ids (ix2 b s)) n (fun s => xhat eps (fun d => (x (ix3 b s d) : EReal)) q * ga (ix1 q) + be (ix1 q)))
    (gDoc g b n) d) (cnt (fun s => ids (ix2 b s)) n))

theorem dy_ref (ga be : Vec Ideal S2560 .f32) (ids : Vec Ideal S3x512 .i32) (g : Vec Ideal S3x5x2560 .f32) (x : Vec Ideal S3x512x2560 .bf16)
    (b : Fin 3) (s : Fin 512) (d : Fin 2560) :
    (dyF g (k0_pay4 ids) (k0_pay5 ids) (k0_pay6 ga be ids x) (k0_pay7 ga be ids x) (ix3 b s d) : EReal) = dyR x ga be ids g b s d := by
  unfold dyR
  pointwise [dyF]
  simp only [sumsq_ref, oneh_ref, cnt_ref, pool_ref]
  rw [← sum_oneh]
  refine Finset.sum_congr rfl fun n _ => congrArg (oneh _ n.val s * ·) (congrArg (Ideal.div · _) ?_)
  have hg : gDoc g b n.val = fun d => g (ix3 b n d) := funext fun d => dif_pos n.isLt
  rw [hg]
  rfl

theorem dx_ref (ga : Vec Ideal S2560 .f32) (v56 : FVec Ideal S3x512x2560 .f32) (b : Fin 3) (s : Fin 512) (d : Fin 2560) :
    (dxF ga v56 (ix3 b s d) : EReal) = v56 (ix3 b s d) * ga (ix1 d) := by
  pointwise [dxF]

theorem ln_ref (v19 : FVec Ideal S3x512x1 .f32) (v21 v59 : FVec Ideal S3x512x2560 .f32) (b : Fin 3) (s : Fin 512) (t : Fin 20) (l : Fin 128) (q : Fin 2560)
    (hq : q.val = 128 * t.val + l.val) (x : Fin 2560 → EReal) (h19 : (v19 (ix3 b s 0) : EReal) = rstd eps x) (h21 : ∀ q, (v21 (ix3 b s q) : EReal) = xhat eps x q) :
    (lnF v19 v21 v59 (ix4 b s t l) : EReal) = dh eps x (fun d => v59 (ix3 b s d)) q := by
  pointwise [lnF]
  have e : (⟨t.val * 128 + l.val, by omega⟩ : Fin 2560) = q := Fin.ext (by show t.val * 128 + l.val = q.val; omega)
  rw [e]
  simp only [h19, h21, bits_2560]
  rfl

/-- The reference's gradient over the tokens, cut into blocks of 128. -/
abbrev dhF (ga be : Vec Ideal S2560 .f32) (ids : Vec Ideal S3x512 .i32) (g : Vec Ideal S3x5x2560 .f32) (x : Vec Ideal S3x512x2560 .bf16) : FVec Ideal S3x512x20x128 .f32 :=
  k0_pay9 (F := Ideal) ga g (k0_pay2 x) (k0_pay3 x) (k0_pay4 ids) (k0_pay5 ids) (k0_pay6 ga be ids x) (k0_pay7 ga be ids x)

/-- The reference's gradient over the tokens of a batch. -/
def tokR (x : Vec Ideal S3x512x2560 .bf16) (ga be : Vec Ideal S2560 .f32) (ids : Vec Ideal S3x512 .i32) (g : Vec Ideal S3x5x2560 .f32)
    (b : Fin 3) (s : Fin 512) (q : Fin 2560) : EReal :=
  dh eps (fun d => (x (ix3 b s d) : EReal)) (fun d => dyR x ga be ids g b s d * ga (ix1 d)) q

theorem dh_ref (ga be : Vec Ideal S2560 .f32) (ids : Vec Ideal S3x512 .i32) (g : Vec Ideal S3x5x2560 .f32) (x : Vec Ideal S3x512x2560 .bf16)
    (b : Fin 3) (s : Fin 512) (t : Fin 20) (l : Fin 128) (q : Fin 2560) (hq : q.val = 128 * t.val + l.val) :
    (dhF ga be ids g x (ix4 b s t l) : EReal) = tokR x ga be ids g b s q := by
  refine (congrFun (pay9_eq _ _ _ _ _ _ _ _) _).trans ?_
  refine (ln_ref _ _ _ b s t l q hq _ (rstd_ref x b s 0) (xhat_ref x b s)).trans ?_
  exact congrArg (dh eps _ · q) (funext fun d => (dx_ref _ _ b s d).trans (congrArg (· * ga (ix1 d)) (dy_ref ga be ids g x b s d)))

end Cert.HeadReferenceIdeal.Value
-- ==== Proof.HeadSpread.lean ====
/- Spreading each document's gradient over its tokens and summing over the tokens gives back the sum over the
   documents, when every document has a token and everything is finite. -/
module
public import proofs.«01_k».proof.Proof.HeadMath
@[expose] public section
noncomputable section
namespace Cert.HeadMath
open Idealize.ShloMosaic

theorem exists_of_cnt (ids : Fin 512 → BitVec 32) (n : ℕ) (h : 0 < cnt ids n) : ∃ s, ids s = BitVec.ofNat 32 n := by
  by_contra hne
  push Not at hne
  refine absurd h (not_lt.mpr (le_of_eq ?_))
  exact Finset.sum_eq_zero fun s _ => if_neg (hne s)

theorem dpool_top (p g : Fin 2560 → EReal) (h : ∑ d, p d * p d = ⊤) (d : Fin 2560) : dpool p g d = 0 := by
  have ht : ∀ x, Ideal.div x ⊤ = 0 := fun x => by
    rw [Ideal.div, if_neg EReal.top_ne_zero, EReal.inv_top, mul_zero]
  rw [dpool, nrm, h, Ideal.sqrt_top, ht]

theorem real_dpool (p g : Fin 2560 → EReal) (hg : ∀ d, ∃ r : ℝ, g d = r) (h : 0 < ∑ d, p d * p d) (d : Fin 2560) :
    ∃ r : ℝ, dpool p g d = r := by
  by_cases hi : ∃ k, p k * p k = ⊤
  · obtain ⟨k, hk⟩ := hi
    exact ⟨0, dpool_top p g (sum_top _ _ (fun i _ => mul_self_ne_bot (p i)) (Finset.mem_univ k) hk) d⟩
  have hp : ∀ d, ∃ r : ℝ, p d = r := fun d => by
    have hd : p d * p d ≠ ⊤ := fun e => hi ⟨d, e⟩
    generalize p d = x at hd ⊢
    induction x with
    | bot => simp at hd
    | top => simp at hd
    | coe r => exact ⟨r, rfl⟩
  choose P hP using hp
  choose G hG using hg
  have hs : ∑ d, p d * p d = ((∑ d, P d * P d : ℝ) : EReal) := by
    rw [coe_sum]; exact Finset.sum_congr rfl fun d _ => by rw [hP, EReal.coe_mul]
  rw [hs] at h
  have h' : 0 < ∑ d, P d * P d := by exact_mod_cast h
  have hn : nrm p = (Real.sqrt (∑ d, P d * P d) : EReal) := by
    rw [nrm, hs, Ideal.sqrt_coe, if_neg (not_lt.mpr h'.le)]
  have h0 : Real.sqrt (∑ d, P d * P d) ≠ 0 := (Real.sqrt_pos.mpr h').ne'
  generalize Real.sqrt (∑ d, P d * P d) = N at hn h0
  refine ⟨(G d - P d * (1 / N) * ∑ k, P k * (1 / N) * G k) * (1 / N), ?_⟩
  unfold dpool
  rw [hn]
  simp only [Ideal.div_coe h0, hP, hG, EReal.coe_mul, EReal.coe_sub, coe_sum]

/-- The one-hot entry as a real number. -/
def one (ids : Fin 512 → BitVec 32) (n : ℕ) (s : Fin 512) : ℝ := if ids s = BitVec.ofNat 32 n then 1 else 0

theorem spread (ids : Fin 512 → BitVec 32) (hc : ∀ n : Fin 5, ∃ s, ids s = BitVec.ofNat 32 n.val) (v : ℕ → EReal) (hv : ∀ n : Fin 5, ∃ r : ℝ, v n.val = r)
    (y : Fin 512 → EReal) (hy : ∀ s, ∃ r : ℝ, y s = r) :
    ∑ s, pick ids s (fun n => Ideal.div (v n) (cnt ids n)) * y s = ∑ n : Fin 5, v n.val * pool ids n.val y := by
  choose u hu using hv
  choose r hr using hy
  obtain rfl : y = fun s => (r s : EReal) := funext hr
  have hL : ∀ s, pick ids s (fun n => Ideal.div (v n) (cnt ids n)) * (r s : EReal)
      = (((∑ n : Fin 5, one ids n.val s * (u n * (1 / ∑ s, one ids n.val s))) * r s : ℝ) : EReal) := fun s => by
    rw [← sum_oneh, EReal.coe_mul, coe_sum]
    refine congrArg (· * _) (Finset.sum_congr rfl fun n _ => ?_)
    rw [hu n, cnt_coe, Ideal.div_coe (cnt_pos ids n.val (hc n)).ne', oneh_coe, EReal.coe_mul, EReal.coe_mul]
    rfl
  have hR : ∀ n : Fin 5, v n.val * pool ids n.val (fun s => (r s : EReal))
      = ((u n * ((∑ s, one ids n.val s * r s) * (1 / ∑ s, one ids n.val s)) : ℝ) : EReal) := fun n => by
    rw [hu n, pool_coe ids n.val (hc n), ← EReal.coe_mul]
    rfl
  rw [Finset.sum_congr rfl fun s _ => hL s, Finset.sum_congr rfl fun n _ => hR n, ← coe_sum, ← coe_sum]
  refine congrArg _ ?_
  simp only [Finset.sum_mul]
  rw [Finset.sum_comm]
  refine Finset.sum_congr rfl fun n _ => ?_
  rw [Finset.mul_sum]
  exact Finset.sum_congr rfl fun s _ => by ring

theorem pool_one (ids : Fin 512 → BitVec 32) (n : ℕ) (h : ∃ s, ids s = BitVec.ofNat 32 n) : pool ids n (fun _ => 1) = 1 := by
  have e := pool_coe ids n h (fun _ => 1)
  have hc := (cnt_pos ids n h).ne'
  simp only [mul_one, EReal.coe_one] at e
  rw [e, mul_one_div_cancel hc, EReal.coe_one]

theorem spread_one (ids : Fin 512 → BitVec 32) (hc : ∀ n : Fin 5, ∃ s, ids s = BitVec.ofNat 32 n.val) (v : ℕ → EReal) (hv : ∀ n : Fin 5, ∃ r : ℝ, v n.val = r) :
    ∑ s, pick ids s (fun n => Ideal.div (v n) (cnt ids n)) = ∑ n : Fin 5, v n.val := by
  have e := spread ids hc v hv (fun _ => 1) fun _ => ⟨1, EReal.coe_one.symm⟩
  simp only [mul_one] at e
  rw [e]
  exact Finset.sum_congr rfl fun n _ => by rw [pool_one ids n.val (hc n), mul_one]

end Cert.HeadMath
-- ==== Proof.HeadSums.lean ====
/- What one grid point of the head's kernel leaves in its two running sums, in both of its cases. -/
module
public import proofs.«01_k».proof.Proof.HeadOut
@[expose] public section
set_option maxRecDepth 16384
noncomputable section
namespace Cert.HeadIdeal.Value
open Cert.HeadIdeal Cert.HeadIdeal.Gen Idealize.ShloMosaic Idealize.ShloMosaic.TcCoe Idealize.SL.Sem
open Cert.HeadMath

/-- The kernel's table of the pooled vectors' gradients, zero past the last document. -/
abbrev gradV (v : Vec Ideal S1x1x512 .i32) (ga be : Vec Ideal S1x2560 .f32) (x : Vec Ideal S512x2560 .f32) (g : Vec Ideal S1x8x2560 .f32) : FVec Ideal S8x2560 .f32 :=
  k0_pay225 (F := Ideal) k0_pay220 (k0_pay223 v ga be x) (k0_pay224 v ga be x) g

/-- A running sum `acc` of the scale's gradient after one more point. -/
abbrev addScale (v : Vec Ideal S1x1x512 .i32) (ga be : Vec Ideal S1x2560 .f32) (x : Vec Ideal S512x2560 .f32) (g : Vec Ideal S1x8x2560 .f32) (acc : Vec Ideal S1x2560 .f32) : FVec Ideal S1x2560 .f32 :=
  k0_pay230 (F := Ideal) k0_pay220 (k0_pay221 v x) (k0_pay223 v ga be x) (k0_pay224 v ga be x) g acc

/-- A running sum `acc` of the shift's gradient after one more point. -/
abbrev addShift (v : Vec Ideal S1x1x512 .i32) (ga be : Vec Ideal S1x2560 .f32) (x : Vec Ideal S512x2560 .f32) (g : Vec Ideal S1x8x2560 .f32) (acc : Vec Ideal S1x2560 .f32) : FVec Ideal S1x2560 .f32 :=
  k0_pay1 (F := Ideal) (gradV v ga be x g) acc

theorem lt8_at (n : Fin 8) (hn : ¬n.val < 5) (z : Fin 1) : (k0_pay220 (ix2 n z)) = 0#1 := by
  pointwise [k0_pay220]
  revert hn
  fin_cases n <;> decide

/-- The gradient of document `n`'s pooled vector, from the gradient `g` of its row. -/
def rowgrad (ids : Fin 512 → BitVec 32) (xh : Fin 512 → Fin 2560 → EReal) (ga be g : Fin 2560 → EReal) (n : ℕ) (d : Fin 2560) : EReal :=
  dpool (fun q => pool ids n (fun s => xh s q) * ga q + be q) g d

/-- The sum over the documents of their pooled vectors' gradients. -/
def shiftT (ids : Fin 512 → BitVec 32) (xh : Fin 512 → Fin 2560 → EReal) (ga be : Fin 2560 → EReal) (g : ℕ → Fin 2560 → EReal) (d : Fin 2560) : EReal :=
  ∑ n : Fin 5, rowgrad ids xh ga be (g n.val) n.val d

/-- The sum over the documents of those gradients times the pooled normalised features. -/
def scaleSum (ids : Fin 512 → BitVec 32) (xh : Fin 512 → Fin 2560 → EReal) (ga be : Fin 2560 → EReal) (g : ℕ → Fin 2560 → EReal) (d : Fin 2560) : EReal :=
  ∑ n : Fin 5, rowgrad ids xh ga be (g n.val) n.val d * pool ids n.val (fun s => xh s d)

/-- Rows past the last document add nothing. -/
theorem sum_rows (f : Fin 8 → EReal) (g : ℕ → EReal) (h5 : ∀ n : Fin 8, n.val < 5 → f n = g n.val) (h8 : ∀ n : Fin 8, ¬n.val < 5 → f n = 0) :
    ∑ n, f n = ∑ n : Fin 5, g n.val := by
  rw [Fin.sum_univ_eight, Fin.sum_univ_five, h5 0 (by decide), h5 1 (by decide), h5 2 (by decide), h5 3 (by decide), h5 4 (by decide),
    h8 5 (by decide), h8 6 (by decide), h8 7 (by decide), add_zero, add_zero, add_zero]
  rfl

section Rows
variable (v : Vec Ideal S1x1x512 .i32) (ga be : Vec Ideal S1x2560 .f32) (x : Vec Ideal S512x2560 .f32) (g : Vec Ideal S1x8x2560 .f32)

theorem grad_at (n : Fin 8) (hn : n.val < 5) (q : Fin 2560) :
    (gradV v ga be x g (ix2 n q) : EReal)
      = rowgrad (fun s => v (ix3 0 0 s)) (fun s q => x (ix2 s q)) (fun q => ga (ix2 0 q)) (fun q => be (ix2 0 q)) (gRow g n.val) n.val q := by
  have hg : gRow g n.val = fun q => g (ix3 0 n q) := funext fun q => dif_pos n.isLt
  rw [hg]
  pointwise [gradV, k0_pay225]
  simp only [lt5_at n hn, unit_at, nrm_at, pooled_at v ga be x n hn]
  rfl

theorem grad_past (n : Fin 8) (hn : ¬n.val < 5) (q : Fin 2560) : (gradV v ga be x g (ix2 n q) : EReal) = 0 := by
  pointwise [gradV, k0_pay225]
  simp only [lt8_at n hn]
  rfl

theorem pay1_at (w : FVec Ideal S8x2560 .f32) (acc : Vec Ideal S1x2560 .f32) (q : Fin 2560) :
    (k0_pay1 (F := Ideal) w acc (ix2 0 q) : EReal) = acc (ix2 0 q) + ∑ n : Fin 8, (w (ix2 n q) : EReal) := by
  pointwise [k0_pay1]

theorem shift_at (acc : Vec Ideal S1x2560 .f32) (q : Fin 2560) :
    (addShift v ga be x g acc (ix2 0 q) : EReal) = acc (ix2 0 q)
      + shiftT (fun s => v (ix3 0 0 s)) (fun s q => x (ix2 s q)) (fun q => ga (ix2 0 q)) (fun q => be (ix2 0 q)) (gRow g) q :=
  (pay1_at _ acc q).trans (congrArg (_ + ·) (sum_rows _ (fun n => rowgrad _ _ _ _ (gRow g n) n q) (fun n hn => grad_at v ga be x g n hn q)
    (fun n hn => grad_past v ga be x g n hn q)))

theorem pay230_at (w1 : FVec Ideal S8x2560 .f32) (w2 : FVec Ideal S8x1 .f32) (w3 : FVec Ideal S8x2560 .f32) (acc : Vec Ideal S1x2560 .f32) (q : Fin 2560) :
    (k0_pay230 (F := Ideal) k0_pay220 w1 w2 w3 g acc (ix2 0 q) : EReal) = acc (ix2 0 q)
      + ∑ n : Fin 8, Scalar.select (k0_pay220 (ix2 n 0)) ((k0_pay225 (F := Ideal) k0_pay220 w2 w3 g (ix2 n q) : EReal) * w1 (ix2 n q)) 0 := by
  pointwise [k0_pay230]

theorem scale_at (acc : Vec Ideal S1x2560 .f32) (q : Fin 2560) :
    (addScale v ga be x g acc (ix2 0 q) : EReal) = acc (ix2 0 q)
      + scaleSum (fun s => v (ix3 0 0 s)) (fun s q => x (ix2 s q)) (fun q => ga (ix2 0 q)) (fun q => be (ix2 0 q)) (gRow g) q := by
  refine (pay230_at g _ _ _ acc q).trans (congrArg (_ + ·) (sum_rows _ (fun n => rowgrad _ _ _ _ (gRow g n) n q * pool _ n (fun s => x (ix2 s q))) (fun n hn => ?_) (fun n hn => ?_)))
  · rw [lt5_at n hn, pool_at v x n hn]
    exact congrArg (· * _) (grad_at v ga be x g n hn q)
  · rw [lt8_at n hn]
    rfl

end Rows

/-- The running sum of the scale's gradient after the first point. -/
theorem sum_A8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec Ideal S1x512x2560 .bf16) (x1 : Vec Ideal S1x1x512 .i32) (x2 : Vec Ideal S1x2560 .f32) (x3 : Vec Ideal S1x2560 .f32) (x4 : Vec Ideal S1x8x2560 .f32) :
    out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = addScale x1 x2 x3 (normG x0) x4 (k0_pay228 (F := Ideal)) := by
  have e0 := read_whole harg2 x1 _ inb_S1x1x512_S1x1x512_0_0_0 zeros3
  have e1 := read_whole harg3 x2 _ inb_S1x2560_S1x2560_0_0 zeros2
  have e2 := read_whole harg4 x3 _ inb_S1x2560_S1x2560_0_0 zeros2
  have e3 := read_whole harg5 x4 _ inb_S1x8x2560_S1x8x2560_0_0_0 zeros3
  have e4 := norm_read Variants.none c none i arg1 harg1 arg2 harg2 arg3 harg3 arg4 harg4 arg5 harg5 arg6 harg6 arg7 harg7 arg8 harg8 arg9 harg9 arg10 harg10 arg11 harg11 arg12 harg12 x0
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  unfold kernelRun0_A.sl.H8_2
  rw [View.canon_cons_unit_lit _ _ _ zeros2]
  unfold kernelRun0_A.sl.v65 kernelRun0_A.sl.H8_1 kernelRun0_A.sl.r_3 kernelRun0_A.sl.r_4 kernelRun0_A.sl.r_5 kernelRun0_A.sl.r_6
  erw [View.readCov_unit_lit arg9.view _ _ zeros2, e0, e1, e2, e3, e4]

/-- The running sum of the shift's gradient after the first point. -/
theorem sum_A9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : cond0_0 i)
    (x0 : Vec Ideal S1x512x2560 .bf16) (x1 : Vec Ideal S1x1x512 .i32) (x2 : Vec Ideal S1x2560 .f32) (x3 : Vec Ideal S1x2560 .f32) (x4 : Vec Ideal S1x8x2560 .f32) :
    out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 = addShift x1 x2 x3 (normG x0) x4 (k0_pay229 (F := Ideal)) := by
  have e0 := read_whole harg2 x1 _ inb_S1x1x512_S1x1x512_0_0_0 zeros3
  have e1 := read_whole harg3 x2 _ inb_S1x2560_S1x2560_0_0 zeros2
  have e2 := read_whole harg4 x3 _ inb_S1x2560_S1x2560_0_0 zeros2
  have e3 := read_whole harg5 x4 _ inb_S1x8x2560_S1x8x2560_0_0_0 zeros3
  have e4 := norm_read Variants.none c none i arg1 harg1 arg2 harg2 arg3 harg3 arg4 harg4 arg5 harg5 arg6 harg6 arg7 harg7 arg8 harg8 arg9 harg9 arg10 harg10 arg11 harg11 arg12 harg12 x0
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4)]
  unfold kernelRun0_A
  dsimp only
  unfold kernelRun0_A.sl.H9_2
  rw [View.canon_cons_unit_lit _ _ _ zeros2]
  unfold kernelRun0_A.sl.v76 kernelRun0_A.sl.H9_1 kernelRun0_A.sl.r_7 kernelRun0_A.sl.r_4 kernelRun0_A.sl.r_5 kernelRun0_A.sl.r_6
  erw [View.readCov_unit_lit arg10.view _ _ zeros2, e0, e1, e2, e3, e4]

/-- The running sum of the scale's gradient after a later point. -/
theorem sum_B8 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec Ideal S1x512x2560 .bf16) (x1 : Vec Ideal S1x1x512 .i32) (x2 : Vec Ideal S1x2560 .f32) (x3 : Vec Ideal S1x2560 .f32) (x4 : Vec Ideal S1x8x2560 .f32) (x8 x9 : Vec Ideal S1x2560 .f32) :
    out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9 = addScale x1 x2 x3 (normG x0) x4 x8 := by
  have e0 := read_whole harg2 x1 _ inb_S1x1x512_S1x1x512_0_0_0 zeros3
  have e1 := read_whole harg3 x2 _ inb_S1x2560_S1x2560_0_0 zeros2
  have e2 := read_whole harg4 x3 _ inb_S1x2560_S1x2560_0_0 zeros2
  have e3 := read_whole harg5 x4 _ inb_S1x8x2560_S1x8x2560_0_0_0 zeros3
  have e4 := norm_read Variants.none c none i arg1 harg1 arg2 harg2 arg3 harg3 arg4 harg4 arg5 harg5 arg6 harg6 arg7 harg7 arg8 harg8 arg9 harg9 arg10 harg10 arg11 harg11 arg12 harg12 x0
  unfold out0_B_8
  rw [View.read_writes_eq_canon _ _ _ (cover0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9)]
  unfold kernelRun0_B
  dsimp only
  unfold kernelRun0_B.sl.H8_1
  rw [View.canon_cons_unit_lit _ _ _ zeros2]
  unfold kernelRun0_B.sl.r_3 kernelRun0_B.sl.r_4 kernelRun0_B.sl.r_5 kernelRun0_B.sl.r_6
  erw [read_whole harg9 x8 _ inb_S1x2560_S1x2560_0_0 zeros2, e0, e1, e2, e3, e4]

/-- The running sum of the shift's gradient after a later point. -/
theorem sum_B9 (c : Dev nD) (i : grid0.Coords) (arg1 : Memref sig .tc .vmem S1x512x2560 .bf16) (harg1 : arg1.IsWhole) (arg2 : Memref sig .tc .vmem S1x1x512 .i32) (harg2 : arg2.IsWhole) (arg3 : Memref sig .tc .vmem S1x2560 .f32) (harg3 : arg3.IsWhole) (arg4 : Memref sig .tc .vmem S1x2560 .f32) (harg4 : arg4.IsWhole) (arg5 : Memref sig .tc .vmem S1x8x2560 .f32) (harg5 : arg5.IsWhole) (arg6 : Memref sig .tc .vmem S1x512x2560 .bf16) (harg6 : arg6.IsWhole) (arg7 : Memref sig .tc .vmem S1x512x2560 .fp8e5m2) (harg7 : arg7.IsWhole) (arg8 : Memref sig .tc .vmem S1x512x20 .f32) (harg8 : arg8.IsWhole) (arg9 : Memref sig .tc .vmem S1x2560 .f32) (harg9 : arg9.IsWhole) (arg10 : Memref sig .tc .vmem S1x2560 .f32) (harg10 : arg10.IsWhole) (arg11 : Memref sig .tc .vmem S512x2560 .f32) (harg11 : arg11.IsWhole) (arg12 : Memref sig .tc .vmem S512x256 .f32) (harg12 : arg12.IsWhole) (hc0 : ¬cond0_0 i)
    (x0 : Vec Ideal S1x512x2560 .bf16) (x1 : Vec Ideal S1x1x512 .i32) (x2 : Vec Ideal S1x2560 .f32) (x3 : Vec Ideal S1x2560 .f32) (x4 : Vec Ideal S1x8x2560 .f32) (x8 x9 : Vec Ideal S1x2560 .f32) :
    out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9 = addShift x1 x2 x3 (normG x0) x4 x9 := by
  have e0 := read_whole harg2 x1 _ inb_S1x1x512_S1x1x512_0_0_0 zeros3
  have e1 := read_whole harg3 x2 _ inb_S1x2560_S1x2560_0_0 zeros2
  have e2 := read_whole harg4 x3 _ inb_S1x2560_S1x2560_0_0 zeros2
  have e3 := read_whole harg5 x4 _ inb_S1x8x2560_S1x8x2560_0_0_0 zeros3
  have e4 := norm_read Variants.none c none i arg1 harg1 arg2 harg2 arg3 harg3 arg4 harg4 arg5 harg5 arg6 harg6 arg7 harg7 arg8 harg8 arg9 harg9 arg10 harg10 arg11 harg11 arg12 harg12 x0
  unfold out0_B_9
  rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x8 x9)]
  unfold kernelRun0_B
  dsimp only
  unfold kernelRun0_B.sl.H9_1
  rw [View.canon_cons_unit_lit _ _ _ zeros2]
  unfold kernelRun0_B.sl.r_10 kernelRun0_B.sl.r_7 kernelRun0_B.sl.r_4 kernelRun0_B.sl.r_5 kernelRun0_B.sl.r_6
  erw [read_whole harg10 x9 _ inb_S1x2560_S1x2560_0_0 zeros2, e0, e1, e2, e3, e4]

end Cert.HeadIdeal.Value
-- ==== Proof.HeadTotal.lean ====
/- What the head's two summed result arrays hold after the run, element by element. -/
module
public import proofs.«01_k».proof.Proof.HeadFinal
public import proofs.«01_k».proof.Proof.HeadSums
@[expose] public section
set_option maxRecDepth 16384
noncomputable section
namespace Cert.HeadIdeal.Value
open Cert.HeadIdeal Cert.HeadIdeal.Gen Idealize.ShloMosaic Idealize.ShloMosaic.TcCoe Idealize.SL.Sem
open Idealize.ShloMosaic.Pipeline (Dat)
open Cert.HeadMath

/-- Batch `b`'s part of the shift's gradient. -/
def shiftK (a0 : Vec Ideal S3x512x2560 .bf16) (a1 a2 : Vec Ideal S2560 .f32) (a3 : Vec Ideal S3x512 .i32) (a4 : Vec Ideal S3x5x2560 .f32) (b : Fin 3)
    (q : Fin 2560) : EReal :=
  shiftT (fun s => a3 (ix2 b s)) (fun s => xhat eps (fun d => a0 (ix3 b s d))) (fun q => a1 (ix1 q)) (fun q => a2 (ix1 q)) (gDoc a4 b) q

/-- Batch `b`'s part of the scale's gradient. -/
def scaleK (a0 : Vec Ideal S3x512x2560 .bf16) (a1 a2 : Vec Ideal S2560 .f32) (a3 : Vec Ideal S3x512 .i32) (a4 : Vec Ideal S3x5x2560 .f32) (b : Fin 3)
    (q : Fin 2560) : EReal :=
  scaleSum (fun s => a3 (ix2 b s)) (fun s => xhat eps (fun d => a0 (ix3 b s d))) (fun q => a1 (ix1 q)) (fun q => a2 (ix1 q)) (gDoc a4 b) q

section Blocks
variable (x0 : Vec Ideal S1x512x2560 .bf16) (x1 : Vec Ideal S1x1x512 .i32) (x2 x3 : Vec Ideal S1x2560 .f32) (x4 : Vec Ideal S1x8x2560 .f32)
  (a0 : Vec Ideal S3x512x2560 .bf16) (a1 a2 : Vec Ideal S2560 .f32) (a3 : Vec Ideal S3x512 .i32) (a4 : Vec Ideal S3x5x2560 .f32) (b : Fin 3)
  (h0 : ∀ s d, x0 (ix3 0 s d) = a0 (ix3 b s d)) (h1 : ∀ s, x1 (ix3 0 0 s) = a3 (ix2 b s)) (h2 : ∀ q, x2 (ix2 0 q) = a1 (ix1 q))
  (h3 : ∀ q, x3 (ix2 0 q) = a2 (ix1 q)) (h4 : ∀ (n : Fin 8) (n' : Fin 5) q, n.val = n'.val → x4 (ix3 0 n q) = a4 (ix3 b n' q))
include h0 h1 h2 h3 h4

/-- A document's row gradient at a point is its batch's. -/
theorem rowgrad_eq (n : Fin 5) (q : Fin 2560) :
    rowgrad (fun s => x1 (ix3 0 0 s)) (fun s q => normG x0 (ix2 s q)) (fun q => x2 (ix2 0 q)) (fun q => x3 (ix2 0 q)) (gRow x4 n.val) n.val q
      = rowgrad (fun s => a3 (ix2 b s)) (fun s => xhat eps (fun d => a0 (ix3 b s d))) (fun q => a1 (ix1 q)) (fun q => a2 (ix1 q)) (gDoc a4 b n.val) n.val q := by
  have e0 : ∀ s q, normG x0 (ix2 s q) = xhat eps (fun d => a0 (ix3 b s d)) q := fun s q =>
    congrArg (fun f => xhat eps f q) (funext fun d => h0 s d)
  have e4 : gRow x4 n.val = gDoc a4 b n.val := by
    funext q
    unfold gRow gDoc
    rw [dif_pos (show n.val < 8 by omega), dif_pos n.isLt]
    exact h4 _ _ q rfl
  simp only [e0, h1, h2, h3, e4]

theorem shift_eq (acc : Vec Ideal S1x2560 .f32) (q : Fin 2560) :
    (addShift x1 x2 x3 (normG x0) x4 acc (ix2 0 q) : EReal) = acc (ix2 0 q) + shiftK a0 a1 a2 a3 a4 b q :=
  (shift_at x1 x2 x3 (normG x0) x4 acc q).trans (congrArg (_ + ·) (Finset.sum_congr rfl fun n _ =>
    rowgrad_eq x0 x1 x2 x3 x4 a0 a1 a2 a3 a4 b h0 h1 h2 h3 h4 n q))

theorem scale_eq (acc : Vec Ideal S1x2560 .f32) (q : Fin 2560) :
    (addScale x1 x2 x3 (normG x0) x4 acc (ix2 0 q) : EReal) = acc (ix2 0 q) + scaleK a0 a1 a2 a3 a4 b q := by
  have e0 : ∀ s q, normG x0 (ix2 s q) = xhat eps (fun d => a0 (ix3 b s d)) q := fun s q =>
    congrArg (fun f => xhat eps f q) (funext fun d => h0 s d)
  refine (scale_at x1 x2 x3 (normG x0) x4 acc q).trans (congrArg (acc (ix2 0 q) + ·) ?_)
  unfold scaleK scaleSum
  refine Finset.sum_congr rfl fun n _ => ?_
  rw [rowgrad_eq x0 x1 x2 x3 x4 a0 a1 a2 a3 a4 b h0 h1 h2 h3 h4 n q]
  simp only [e0, h1]

end Blocks

variable (m : (ℓ : Loc nD τ sig) → Buf (Elt Ideal) ℓ)

/-- A batch's part of the shift's gradient, from the arguments in memory. -/
abbrev shiftM (c : Dev nD) : Fin 3 → Fin 2560 → EReal :=
  shiftK (m ((c : Thread nD τ).loc main_arg0)) (m ((c : Thread nD τ).loc main_arg1)) (m ((c : Thread nD τ).loc main_arg2))
    (m ((c : Thread nD τ).loc main_arg3)) (m ((c : Thread nD τ).loc main_arg4))

/-- A batch's part of the scale's gradient, from the arguments in memory. -/
abbrev scaleM (c : Dev nD) : Fin 3 → Fin 2560 → EReal :=
  scaleK (m ((c : Thread nD τ).loc main_arg0)) (m ((c : Thread nD τ).loc main_arg1)) (m ((c : Thread nD τ).loc main_arg2))
    (m ((c : Thread nD τ).loc main_arg3)) (m ((c : Thread nD τ).loc main_arg4))

theorem zero228 (q : Fin 2560) : (k0_pay228 (F := Ideal) (ix2 0 q) : EReal) = 0 := by
  pointwise [k0_pay228]

theorem zero229 (q : Fin 2560) : (k0_pay229 (F := Ideal) (ix2 0 q) : EReal) = 0 := by
  pointwise [k0_pay229]

/-- The two running sums after the first point. -/
theorem point_A (c : Dev nD) (t : Fin cfg0.N) (b : Fin 3) (hb : b.val = t.val) (h0 : t.val % 3 = 0) (q : Fin 2560) :
    ((outsAt0 m c t.val t.isLt).2.2.2.1 (ix2 0 q : S1x2560.Idx) : EReal) = scaleM m c b q
    ∧ ((outsAt0 m c t.val t.isLt).2.2.2.2 (ix2 0 q : S1x2560.Idx) : EReal) = shiftM m c b q := by
  rw [outsAt0_A m c t h0]
  dsimp only
  rw [sum_A8 c (grid0.coords t), sum_A9 c (grid0.coords t)]
  constructor
  · refine (scale_eq _ _ _ _ _ _ _ _ _ _ b (iblk0_apply m c t b hb) (iblk1_apply m c t b hb) (iblk2_apply m c t) (iblk3_apply m c t)
      (fun n n' q hn => iblk4_apply m c t b hb n n' q hn) _ q).trans ?_
    rw [zero228, zero_add]
  · refine (shift_eq _ _ _ _ _ _ _ _ _ _ b (iblk0_apply m c t b hb) (iblk1_apply m c t b hb) (iblk2_apply m c t) (iblk3_apply m c t)
      (fun n n' q hn => iblk4_apply m c t b hb n n' q hn) _ q).trans ?_
    rw [zero229, zero_add]

/-- The two running sums after a later point. -/
theorem point_B (c : Dev nD) (t t' : Fin cfg0.N) (ht : t'.val = t.val - 1) (b : Fin 3) (hb : b.val = t.val) (h0 : ¬t.val % 3 = 0) (q : Fin 2560) :
    ((outsAt0 m c t.val t.isLt).2.2.2.1 (ix2 0 q : S1x2560.Idx) : EReal)
      = (outsAt0 m c t'.val t'.isLt).2.2.2.1 (ix2 0 q : S1x2560.Idx) + scaleM m c b q
    ∧ ((outsAt0 m c t.val t.isLt).2.2.2.2 (ix2 0 q : S1x2560.Idx) : EReal)
      = (outsAt0 m c t'.val t'.isLt).2.2.2.2 (ix2 0 q : S1x2560.Idx) + shiftM m c b q := by
  obtain ⟨n', hn'⟩ := t'
  dsimp only at ht
  subst ht
  rw [outsAt0_B m c t h0]
  dsimp only
  rw [sum_B8 c (grid0.coords t), sum_B9 c (grid0.coords t)]
  exact ⟨scale_eq _ _ _ _ _ _ _ _ _ _ b (iblk0_apply m c t b hb) (iblk1_apply m c t b hb) (iblk2_apply m c t) (iblk3_apply m c t)
      (fun n n' q hn => iblk4_apply m c t b hb n n' q hn) _ q,
    shift_eq _ _ _ _ _ _ _ _ _ _ b (iblk0_apply m c t b hb) (iblk1_apply m c t b hb) (iblk2_apply m c t) (iblk3_apply m c t)
      (fun n n' q hn => iblk4_apply m c t b hb n n' q hn) _ q⟩

/-- A result that is a sum over the batches. -/
def totalR (T : Fin 3 → Fin 2560 → EReal) : Vec Ideal S1x2560 .f32 := fun j => (∑ b, T b (j 1) : EReal)

theorem totals_of (c : Dev nD) (t0 t1 t2 : Fin cfg0.N) (h0 : t0.val = 0) (h1 : t1.val = 1) (h2 : t2.val = 2) :
    (outsAt0 m c t2.val t2.isLt).2.2.2.1 = totalR (scaleM m c) ∧ (outsAt0 m c t2.val t2.isLt).2.2.2.2 = totalR (shiftM m c) := by
  have hj : ∀ j : S1x2560.Idx, ∃ q : Fin 2560, j = ix2 0 q := fun j => ⟨j 1, funext fun a => match a with
    | ⟨0, _⟩ => Fin.ext (by have : (j 0).val < 1 := (j 0).isLt; show (j 0).val = 0; omega)
    | ⟨1, _⟩ => rfl⟩
  have hA := point_A m c t0 0 h0.symm (by omega)
  have hB := point_B m c t1 t0 (by omega) 1 h1.symm (by omega)
  have hC := point_B m c t2 t1 (by omega) 2 h2.symm (by omega)
  constructor <;> funext j <;> obtain ⟨q, rfl⟩ := hj j
  · rw [(hC q).1, (hB q).1, (hA q).1]
    exact (Fin.sum_univ_three (fun b => scaleM m c b q)).symm
  · rw [(hC q).2, (hB q).2, (hA q).2]
    exact (Fin.sum_univ_three (fun b => shiftM m c b q)).symm

theorem totals (c : Dev nD) (t : Fin cfg0.N) (ht : t.val % 3 = 2) :
    (outsAt0 m c t.val t.isLt).2.2.2.1 = totalR (scaleM m c) ∧ (outsAt0 m c t.val t.isLt).2.2.2.2 = totalR (shiftM m c) := by
  have h3 : t.val < 3 := t.isLt
  exact totals_of m c ⟨0, by omega⟩ ⟨1, by omega⟩ t rfl rfl (by omega)

/-- The summed windows' block indices at every grid point. -/
theorem sum_facts : ∀ t : Fin grid0.N,
    win0_8.index t (0 : Fin 2) = 0 ∧ win0_8.index t (1 : Fin 2) = 0 ∧ win0_9.index t (0 : Fin 2) = 0 ∧ win0_9.index t (1 : Fin 2) = 0 :=
  (by decide +kernel)

theorem flushed_eq8 (c : Dev nD) (t : Fin cfg0.N) (hf : (cfg0.win 8).flush t = true) :
    (dats m 0 c).flushed 8 t = ((cfg0.win 8).blk t).view.read (Elt Ideal) (totalR (scaleM m c)) := by
  obtain ⟨e0, e1, -⟩ := sum_facts t
  rw [flushed8 m c t, (totals m c t ((flush0_8 t).mp hf)).1]
  funext j
  have hj : (j 0).val < 1 := (j 0).isLt
  have hemb : ((cfg0.win 8).blk t).view.emb j = (ix2 (0 : Fin 1) (⟨(j 1).val, (j 1).isLt⟩ : Fin 2560) : S1x2560.Idx) := by
    refine funext fun x => Fin.ext ?_
    match x with
    | ⟨0, _⟩ => show win0_8.index t (0 : Fin 2) * 1 + 1 * (j 0).val = 0; omega
    | ⟨1, _⟩ => show win0_8.index t (1 : Fin 2) * 2560 + 1 * (j 1).val = (j 1).val; omega
  exact (congrArg (totalR (scaleM m c)) hemb).symm

theorem flushed_eq9 (c : Dev nD) (t : Fin cfg0.N) (hf : (cfg0.win 9).flush t = true) :
    (dats m 0 c).flushed 9 t = ((cfg0.win 9).blk t).view.read (Elt Ideal) (totalR (shiftM m c)) := by
  obtain ⟨-, -, e0, e1⟩ := sum_facts t
  rw [flushed9 m c t, (totals m c t ((flush0_9 t).mp hf)).2]
  funext j
  have hj : (j 0).val < 1 := (j 0).isLt
  have hemb : ((cfg0.win 9).blk t).view.emb j = (ix2 (0 : Fin 1) (⟨(j 1).val, (j 1).isLt⟩ : Fin 2560) : S1x2560.Idx) := by
    refine funext fun x => Fin.ext ?_
    match x with
    | ⟨0, _⟩ => show win0_9.index t (0 : Fin 2) * 1 + 1 * (j 0).val = 0; omega
    | ⟨1, _⟩ => show win0_9.index t (1 : Fin 2) * 2560 + 1 * (j 1).val = (j 1).val; omega
  exact (congrArg (totalR (shiftM m c)) hemb).symm

theorem covered8 (i : S1x2560.Idx) : ∃ t : Fin cfg0.N, (cfg0.win 8).flush t = true ∧ i ∈ ((cfg0.win 8).blk t).view.set := by
  have h0 : (i 0).val < 1 := (i 0).isLt
  have h1 : (i 1).val < 2560 := (i 1).isLt
  have h2 : 2 < 3 := by decide
  refine ⟨⟨2, h2⟩, (flush0_8 _).mpr rfl, ?_⟩
  obtain ⟨e0, e1, -⟩ := sum_facts ⟨2, h2⟩
  show i ∈ ((View.whole main_v4_3).slice (win0_8.rect (⟨2, h2⟩ : Fin grid0.N))).set
  rw [View.set_slice_whole, Rect.mem_set_unit]
  intro a
  match a with
  | ⟨0, _⟩ =>
    show win0_8.index _ (0 : Fin 2) * 1 ≤ (i 0).val ∧ (i 0).val < win0_8.index _ (0 : Fin 2) * 1 + 1
    rw [e0]; omega
  | ⟨1, _⟩ =>
    show win0_8.index _ (1 : Fin 2) * 2560 ≤ (i 1).val ∧ (i 1).val < win0_8.index _ (1 : Fin 2) * 2560 + 2560
    rw [e1]; omega

theorem covered9 (i : S1x2560.Idx) : ∃ t : Fin cfg0.N, (cfg0.win 9).flush t = true ∧ i ∈ ((cfg0.win 9).blk t).view.set := by
  have h0 : (i 0).val < 1 := (i 0).isLt
  have h1 : (i 1).val < 2560 := (i 1).isLt
  have h2 : 2 < 3 := by decide
  refine ⟨⟨2, h2⟩, (flush0_9 _).mpr rfl, ?_⟩
  obtain ⟨-, -, e0, e1⟩ := sum_facts ⟨2, h2⟩
  show i ∈ ((View.whole main_v4_4).slice (win0_9.rect (⟨2, h2⟩ : Fin grid0.N))).set
  rw [View.set_slice_whole, Rect.mem_set_unit]
  intro a
  match a with
  | ⟨0, _⟩ =>
    show win0_9.index _ (0 : Fin 2) * 1 ≤ (i 0).val ∧ (i 0).val < win0_9.index _ (0 : Fin 2) * 1 + 1
    rw [e0]; omega
  | ⟨1, _⟩ =>
    show win0_9.index _ (1 : Fin 2) * 2560 ≤ (i 1).val ∧ (i 1).val < win0_9.index _ (1 : Fin 2) * 2560 + 2560
    rw [e1]; omega

/-- The scale's gradient after the run. -/
theorem final8 (c : Dev nD) : (dats m 0 c).arrAt 8 cfg0.N = totalR (scaleM m c) :=
  (dats m 0 c).arrAt_eq_of_cover 8 (totalR (scaleM m c)) (flushed_eq8 m c) covered8

/-- The shift's gradient after the run. -/
theorem final9 (c : Dev nD) : (dats m 0 c).arrAt 9 cfg0.N = totalR (shiftM m c) :=
  (dats m 0 c).arrAt_eq_of_cover 9 (totalR (shiftM m c)) (flushed_eq9 m c) covered9

end Cert.HeadIdeal.Value
end
-- ==== Proof.HeadEqual.lean ====
/- The head's kernel and its reference compute the same gradient over the tokens, when the scale of the
   normalisation is finite, and the same gradients of its scale and shift, when the gradient they are given is finite
   too and every document has tokens and a pooled vector of positive length. -/
module
public import proofs.«01_k».proof.Proof.HeadRef
public import proofs.«01_k».proof.Proof.HeadSpread
public import proofs.«01_k».proof.Proof.HeadTotal
@[expose] public section
set_option maxRecDepth 16384
noncomputable section
namespace Cert.HeadReferenceIdeal.Value
open Cert.HeadReferenceIdeal Cert.HeadReferenceIdeal.Gen Idealize.ShloMosaic Idealize.ShloMosaic.TcCoe Idealize.SL.Sem
open Cert.HeadMath
open Cert.HeadIdeal.Value (eps gDoc doc tokK shiftK scaleK shiftT scaleSum rowgrad)

theorem xhat_eps_real (x : Fin 2560 → EReal) (q : Fin 2560) : ∃ r : ℝ, xhat eps x q = r := by
  obtain ⟨e, he, hee⟩ := bits_eps
  obtain ⟨r, hr⟩ := xhat_real e he x
  exact ⟨r q, by rw [← hr q, ← hee]⟩

/-- Pooling the normalised tokens and then scaling and shifting them is pooling the scaled and shifted ones: the
    normalised features are always finite. -/
theorem pool_rows (a0 : Vec Ideal S3x512x2560 .bf16) (a1 a2 : Vec Ideal S2560 .f32) (ids : Fin 512 → BitVec 32) (b : Fin 3) (n : ℕ)
    (hd : ∃ s, ids s = BitVec.ofNat 32 n)
    (h1 : ∀ q : Fin 2560, ∃ r : ℝ, (a1 (ix1 q) : EReal) = r) :
    (fun q => pool ids n (fun s => xhat eps (fun d => (a0 (ix3 b s d) : EReal)) q * a1 (ix1 q) + a2 (ix1 q)))
      = fun q => pool ids n (fun s => xhat eps (fun d => (a0 (ix3 b s d) : EReal)) q) * a1 (ix1 q) + a2 (ix1 q) := by
  funext q
  obtain ⟨r1, e1⟩ := h1 q
  have hx : ∀ s, ∃ r : ℝ, xhat eps (fun d => (a0 (ix3 b s d) : EReal)) q = r := fun s => xhat_eps_real _ q
  choose r hr using hx
  rw [e1]
  exact pool_affine _ n hd _ r hr r1 _

/-- The two gradients over the tokens agree: a document a token belongs to has a positive count. -/
theorem tokR_eq (a0 : Vec Ideal S3x512x2560 .bf16) (a1 a2 : Vec Ideal S2560 .f32) (a3 : Vec Ideal S3x512 .i32) (a4 : Vec Ideal S3x5x2560 .f32)
    (h1 : ∀ q : Fin 2560, ∃ r : ℝ, (a1 (ix1 q) : EReal) = r) :
    tokR a0 a1 a2 a3 a4 = tokK a0 a1 a2 a3 a4 := by
  funext b s q
  unfold tokR dyR tokK
  refine congrArg (dh eps _ · q) (funext fun d => ?_)
  rw [← pick_mul]
  refine pick_congr _ _ _ _ fun n _ hd => ?_
  unfold doc
  rw [pool_rows a0 a1 a2 _ b n hd h1]

section Sums
variable (a0 : Vec Ideal S3x512x2560 .bf16) (a1 a2 : Vec Ideal S2560 .f32) (a3 : Vec Ideal S3x512 .i32) (a4 : Vec Ideal S3x5x2560 .f32)
  (hf : ∀ (b : Fin 3) (n : Fin 5) (q : Fin 2560), (∃ r : ℝ, (a1 (ix1 q) : EReal) = r) ∧ ∃ r : ℝ, (a4 (ix3 b n q) : EReal) = r)
  (hc : ∀ (b : Fin 3) (n : Fin 5), 0 < cnt (fun s => a3 (ix2 b s)) n.val)
  (hp : ∀ (b : Fin 3) (n : Fin 5), 0 < ∑ d, pool (fun s => a3 (ix2 b s)) n.val (fun s => xhat eps (fun d => (a0 (ix3 b s d) : EReal)) d * a1 (ix1 d) + a2 (ix1 d))
        * pool (fun s => a3 (ix2 b s)) n.val (fun s => xhat eps (fun d => (a0 (ix3 b s d) : EReal)) d * a1 (ix1 d) + a2 (ix1 d)))
include hf hc hp

/-- The gradient of a document's pooled vector, as the kernel and the reference compute it, and that it is finite. -/
theorem rowgrad_ref (b : Fin 3) (n : Fin 5) (q : Fin 2560) :
    dpool (fun q => pool (fun s => a3 (ix2 b s)) n.val (fun s => xhat eps (fun d => (a0 (ix3 b s d) : EReal)) q * a1 (ix1 q) + a2 (ix1 q))) (gDoc a4 b n.val) q
      = rowgrad (fun s => a3 (ix2 b s)) (fun s => xhat eps (fun d => (a0 (ix3 b s d) : EReal))) (fun q => a1 (ix1 q)) (fun q => a2 (ix1 q)) (gDoc a4 b n.val) n.val q
    ∧ ∃ r : ℝ, dpool (fun q => pool (fun s => a3 (ix2 b s)) n.val (fun s => xhat eps (fun d => (a0 (ix3 b s d) : EReal)) q * a1 (ix1 q) + a2 (ix1 q))) (gDoc a4 b n.val) q = r := by
  have hd := exists_of_cnt _ _ (hc b n)
  have e := pool_rows a0 a1 a2 _ b n.val hd (fun q => (hf b n q).1)
  refine ⟨by rw [e]; rfl, real_dpool _ _ (fun d => ?_) (hp b n) q⟩
  obtain ⟨r, e4⟩ := (hf b n d).2
  exact ⟨r, (dif_pos n.isLt).trans e4⟩

theorem shift_spread (b : Fin 3) (q : Fin 2560) : ∑ s, dyR a0 a1 a2 a3 a4 b s q = shiftK a0 a1 a2 a3 a4 b q := by
  refine (spread_one (fun s => a3 (ix2 b s)) (fun n => exists_of_cnt _ _ (hc b n)) _ (fun n => (rowgrad_ref a0 a1 a2 a3 a4 hf hc hp b n q).2)).trans ?_
  exact Finset.sum_congr rfl fun n _ => (rowgrad_ref a0 a1 a2 a3 a4 hf hc hp b n q).1

theorem scale_spread (b : Fin 3) (q : Fin 2560) :
    ∑ s, dyR a0 a1 a2 a3 a4 b s q * xhat eps (fun d => (a0 (ix3 b s d) : EReal)) q = scaleK a0 a1 a2 a3 a4 b q := by
  refine (spread (fun s => a3 (ix2 b s)) (fun n => exists_of_cnt _ _ (hc b n)) _ (fun n => (rowgrad_ref a0 a1 a2 a3 a4 hf hc hp b n q).2)
    (fun s => xhat eps (fun d => (a0 (ix3 b s d) : EReal)) q) (fun s => xhat_eps_real _ q)).trans ?_
  exact Finset.sum_congr rfl fun n _ => congrArg (· * _) (rowgrad_ref a0 a1 a2 a3 a4 hf hc hp b n q).1

end Sums
end Cert.HeadReferenceIdeal.Value
-- ==== Proof.HeadRegular.lean ====
/- What the head's precondition says of the arguments. -/
module
public import proofs.«01_k».proof.Proof.Gen.Pre_regular
public import proofs.«01_k».proof.Proof.HeadEqual
@[expose] public section
set_option maxRecDepth 16384
noncomputable section
namespace Cert.Pre_regular.Value
open Cert.Pre_regular Cert.Pre_regular.Gen Idealize.ShloMosaic
open Cert.HeadMath
open Cert.HeadIdeal.Value (eps)

theorem real_of_abs_lt (x : EReal) (h : max x (-x) < ⊤) : ∃ r : ℝ, x = r := by
  induction x with
  | bot => simp at h
  | top => simp at h
  | coe r => exact ⟨r, rfl⟩

theorem bits_inf : Ideal.ofBits .f32 0x7F800000#32 = ⊤ := by
  simp [Ideal.ofBits, Ideal.ieee]

theorem bits_and (x y : BitVec 1) : IntOp.andi x y = 1#1 → x = 1#1 ∧ y = 1#1 := by
  revert x y; decide

theorem of_bit (p : Prop) [Decidable p] (h : BitVec.ofBool (decide p) = 1#1) : p := by
  by_contra hp
  rw [decide_eq_false hp] at h
  exact absurd h (by decide)

theorem oneh_bit (a b : BitVec 32) : (FloatOps.uitofp (F := Ideal) .f32 (IntOp.cmpi .eq a b) : EReal) = if a = b then 1 else 0 := by
  show (((BitVec.ofBool (a == b)).toNat : ℝ) : EReal) = _
  by_cases h : a = b
  · rw [if_pos h, h]
    simp
  · rw [if_neg h, beq_false_of_ne h]
    simp

theorem part1_at (a1 a2 : FVec Ideal S2560 .f32) (a4 : FVec Ideal S3x5x2560 .f32) (v16 : FVec Ideal S3x512x2560 .f32) (v17 : IVec S3x512x1 32)
    (v18 : IVec S5 32) (xh : Fin 3 → Fin 512 → Fin 2560 → EReal) (ids : Fin 3 → Fin 512 → BitVec 32)
    (h16 : ∀ b s d, (v16 (ix3 b s d) : EReal) = xh b s d) (h17 : ∀ b s, v17 (ix3 b s 0) = ids b s) (h18 : ∀ n : Fin 5, v18 (ix1 n) = BitVec.ofNat 32 n.val)
    (b : Fin 3) (n : Fin 5) (q : Fin 2560) (h : fn_part1 (F := Ideal) a1 a2 a4 v16 v17 v18 (ix3 b n q) = 1#1) :
    ((∃ r : ℝ, (a1 (ix1 q) : EReal) = r) ∧ ∃ r : ℝ, (a4 (ix3 b n q) : EReal) = r)
    ∧ 0 < cnt (ids b) n.val
    ∧ 0 < ∑ d, pool (ids b) n.val (fun s => xh b s d * a1 (ix1 d) + a2 (ix1 d)) * pool (ids b) n.val (fun s => xh b s d * a1 (ix1 d) + a2 (ix1 d)) := by
  pointwise [fn_part1, fn_part2] at h
  simp only [h16, h17, h18, oneh_bit] at h
  obtain ⟨h1, h2⟩ := bits_and _ _ h
  obtain ⟨h3, h4⟩ := bits_and _ _ h1
  obtain ⟨h7, h8⟩ := bits_and _ _ h2
  rw [bits_inf] at h3 h4
  exact ⟨⟨real_of_abs_lt _ (of_bit _ h3), real_of_abs_lt _ (of_bit _ h4)⟩, of_bit _ h7, of_bit _ h8⟩

theorem regular (a0 : FVec Ideal S3x512x2560 .bf16) (a1 a2 : FVec Ideal S2560 .f32) (a3 : IVec S3x512 32) (a4 : FVec Ideal S3x5x2560 .f32)
    (h : fn (F := Ideal) a0 a1 a2 a3 a4 = fun _ => 1#1) (b : Fin 3) (n : Fin 5) (q : Fin 2560) :
    ((∃ r : ℝ, (a1 (ix1 q) : EReal) = r) ∧ ∃ r : ℝ, (a4 (ix3 b n q) : EReal) = r)
    ∧ 0 < cnt (fun s => a3 (ix2 b s)) n.val
    ∧ 0 < ∑ d, pool (fun s => a3 (ix2 b s)) n.val (fun s => xhat eps (fun d => (a0 (ix3 b s d) : EReal)) d * a1 (ix1 d) + a2 (ix1 d))
        * pool (fun s => a3 (ix2 b s)) n.val (fun s => xhat eps (fun d => (a0 (ix3 b s d) : EReal)) d * a1 (ix1 d) + a2 (ix1 d)) := by
  have e := congrFun h (ix3 b n q)
  unfold fn at e
  refine part1_at a1 a2 a4 _ _ _ (fun b s => xhat eps (fun d => (a0 (ix3 b s d) : EReal))) (fun b s => a3 (ix2 b s)) ?_ ?_ ?_ b n q e
  · intro b s d
    unfold xhat rstd xc mean
    rw [← bits_2560]
    pointwise
  · intro b s
    pointwise
  · intro n
    pointwise

end Cert.Pre_regular.Value
-- ==== Proof.HeadRefScale.lean ====
/- The scales, codes and products of the head's reference, from its gradient. -/
module
public import proofs.«01_k».proof.Proof.HeadRef
public import proofs.«01_k».proof.Proof.Gen.HeadReferenceIdeal.Value
@[expose] public section
set_option maxRecDepth 16384
noncomputable section
namespace Cert.HeadReferenceIdeal.Value
open Cert.HeadReferenceIdeal Cert.HeadReferenceIdeal.Gen Idealize.ShloMosaic Idealize.ShloMosaic.TcCoe Idealize.SL.Sem
open Cert.HeadMath
open Cert.HeadIdeal.Value (eps bound code blk codeT scaleT select_eq gDoc ld_whole zeros2 zeros3)

/-- The bounds of the blocks of `v`. -/
def boundF (v : FVec Ideal S3x512x20x128 .f32) : FVec Ideal S3x512x20 .f32 :=
  mulf (multiReduction .maximumf [3] S3x512x20 (absf v) 0xFF800000#32 reduces_S3x512x20x128_S3x512x20 (.inl rfl) rfl)
    (broadcast S3x512x20 (Scalar.ofBits .f32 0x37924925#32))

theorem pay10_eq (v0 : Vec Ideal S2560 .f32) (v3 : Vec Ideal S3x5x2560 .f32) (v19 : FVec Ideal S3x512x1 .f32) (v21 : FVec Ideal S3x512x2560 .f32)
    (v33 : FVec Ideal S3x512x5 .f32) (v34 : FVec Ideal S3x5 .f32) (v38 : FVec Ideal S3x5x2560 .f32) (v41 : FVec Ideal S3x5x1 .f32) :
    k0_pay10 (F := Ideal) v0 v3 v19 v21 v33 v34 v38 v41 = boundF (k0_pay9 (F := Ideal) v0 v3 v19 v21 v33 v34 v38 v41) := by
  unfold k0_pay10 boundF
  rfl

theorem max_ref (v : FVec Ideal S3x512x20x128 .f32) (b : Fin 3) (s : Fin 512) (t : Fin 20) :
    (multiReduction .maximumf [3] S3x512x20 v 0xFF800000#32 reduces_S3x512x20x128_S3x512x20 (.inl rfl) rfl (ix3 b s t) : EReal)
      = Finset.univ.fold max (Ideal.ofBits .f32 0xFF800000#32) (fun l => v (ix4 b s t l)) := by
  pointwise []

theorem abs_ref (v : FVec Ideal S3x512x20x128 .f32) (b : Fin 3) (s : Fin 512) (t : Fin 20) (l : Fin 128) :
    (absf v (ix4 b s t l) : EReal) = max (v (ix4 b s t l)) (-v (ix4 b s t l)) := rfl

theorem scaled_ref (w : FVec Ideal S3x512x20 .f32) (b : Fin 3) (s : Fin 512) (t : Fin 20) :
    (mulf w (broadcast S3x512x20 (Scalar.ofBits .f32 0x37924925#32)) (ix3 b s t) : EReal) = w (ix3 b s t) * Ideal.ofBits .f32 0x37924925#32 := rfl

theorem bound_ref (v : FVec Ideal S3x512x20x128 .f32) (b : Fin 3) (s : Fin 512) (t : Fin 20) :
    (boundF v (ix3 b s t) : EReal) = bound (fun l => v (ix4 b s t l)) := by
  unfold boundF bound
  rw [scaled_ref, max_ref]
  simp only [abs_ref]

/-- The reference's exponents, from the blocks' bounds. -/
def expoF (w : FVec Ideal S3x512x20 .f32) : FVec Ideal S3x512x20 .f32 :=
  select (cmpf .olt w (broadcast S3x512x20 (Scalar.ofBits .f32 0x00800000#32))) (broadcast S3x512x20 (Scalar.ofBits .f32 0x00000000#32))
    (minimumf (broadcast S3x512x20 (Scalar.ofBits .f32 0x43000000#32)) (maximumf (broadcast S3x512x20 (Scalar.ofBits .f32 0xC2FA0000#32))
      (addf (floor (divf (log w) (broadcast S3x512x20 (Named.named (F := Ideal) (φ := .f32) κ "ln_2" 0x3F317218#32)))) (broadcast S3x512x20 (Scalar.ofBits .f32 0x3F800000#32)))))

theorem ln2_named : (Named.named (F := Ideal) (φ := .f32) κ "ln_2" 0x3F317218#32 : EReal) = ((Real.log 2 : ℝ) : EReal) := by
  rfl

theorem expoF_at (w : FVec Ideal S3x512x20 .f32) (b : Fin 3) (s : Fin 512) (t : Fin 20) : (expoF w (ix3 b s t) : EReal) = expo (w (ix3 b s t)) := by
  pointwise [expoF]
  rw [bits_pw_neg126, bits_128, bits_neg125, ln2_named]
  rfl

/-- The reference's codes, from the gradient and the exponents. -/
def codesF (v : FVec Ideal S3x512x20x128 .f32) (e : FVec Ideal S3x512x20 .f32) : FVec Ideal S3x512x20x128 .fp8e5m2 :=
  truncf .fp8e5m2 (minimumf (broadcast S3x512x20x128 (Scalar.ofBits .f32 0x47600000#32)) (maximumf (broadcast S3x512x20x128 (Scalar.ofBits .f32 0xC7600000#32))
    (mulf v (broadcastTo S3x512x20x128 (shapeCast S3x512x20x1 (exp2 (subf (broadcast S3x512x20 (Scalar.ofBits .f32 0x00000000#32)) e))
      shapeCasts_S3x512x20_S3x512x20x1) broadcasts_S3x512x20x1_S3x512x20x128)))) bitsLt_fp8e5m2_f32

theorem codesF_at (v : FVec Ideal S3x512x20x128 .f32) (e : FVec Ideal S3x512x20 .f32) (b : Fin 3) (s : Fin 512) (t : Fin 20) (l : Fin 128) :
    (codesF v e (ix4 b s t l) : EReal) = min (Ideal.ofBits .f32 0x47600000#32) (max (Ideal.ofBits .f32 0xC7600000#32)
      (v (ix4 b s t l) * Ideal.exp2 (0 - (e (ix3 b s t) : EReal)))) := by
  pointwise [codesF]
  rfl

/-- The reference's products, from the codes and the exponents. -/
def dhwF (k : FVec Ideal S3x512x20x128 .fp8e5m2) (e : FVec Ideal S3x512x20 .f32) : FVec Ideal S3x512x20x128 .bf16 :=
  mulf (extf .bf16 k bitsLt_fp8e5m2_bf16) (broadcastTo S3x512x20x128 (truncf .bf16 (shapeCast S3x512x20x1 (exp2 e)
    shapeCasts_S3x512x20_S3x512x20x1) bitsLt_bf16_f32) broadcasts_S3x512x20x1_S3x512x20x128)

theorem dhwF_at (k : FVec Ideal S3x512x20x128 .fp8e5m2) (e : FVec Ideal S3x512x20 .f32) (b : Fin 3) (s : Fin 512) (t : Fin 20) (l : Fin 128) :
    (dhwF k e (ix4 b s t l) : EReal) = k (ix4 b s t l) * Ideal.exp2 (e (ix3 b s t)) := by
  pointwise [dhwF]
  rfl

/-- A row's 20 blocks of 128 laid end to end. -/
theorem flat_at {φ : FTy} (v : FVec Ideal S3x512x20x128 φ) (b : Fin 3) (s : Fin 512) (q : Fin 2560) :
    shapeCast S3x512x2560 v shapeCasts_S3x512x20x128_S3x512x2560 (ix3 b s q)
      = v (ix4 b s ⟨q.val / 128, by omega⟩ ⟨q.val % 128, Nat.mod_lt _ (by decide)⟩) := by
  pointwise []

theorem zeros1 (a : Fin 1) : (![0] : Fin 1 → Nat) a = 0 := by fin_cases a; rfl

variable (a0 : Vec Ideal S3x512x2560 .bf16) (a1 a2 : Vec Ideal S2560 .f32) (a3 : Vec Ideal S3x512 .i32) (a4 : Vec Ideal S3x5x2560 .f32)

theorem ld0 (x : Vec Ideal S2560 .f32) : View.ld x r0_0 = x := ld_whole x _ _ zeros1
theorem ld1 (x : Vec Ideal S3x512 .i32) : View.ld x r0_1 = x := ld_whole x _ _ zeros2
theorem ld2 (x : Vec Ideal S3x5x2560 .f32) : View.ld x r0_2 = x := ld_whole x _ _ zeros3
theorem ld3 (x : Vec Ideal S3x512x2560 .bf16) : View.ld x r0_3 = x := ld_whole x _ _ zeros3

theorem pay27_eq : k0_pay27 (F := Ideal) a0 a1 a2 a3 a4 = dhF a1 a2 a3 a4 a0 := by
  unfold k0_pay27 k0_pay20 k0_pay21 k0_pay22 k0_pay23 k0_pay24 k0_pay25
  rw [ld0, ld0, ld1, ld2, ld3]

/-- The reference's exponents, from the arguments. -/
abbrev expR : FVec Ideal S3x512x20 .f32 := expoF (boundF (dhF a1 a2 a3 a4 a0))

theorem exps_eq : k0_pay13 (F := Ideal) (k0_pay28 a0 a1 a2 a3 a4) (k0_pay29 a0 a1 a2 a3 a4) (Scalar.ofBits .f32 0xC2FA0000#32) (Scalar.ofBits .f32 0x43000000#32)
    = expR a0 a1 a2 a3 a4 := by
  unfold k0_pay28 k0_pay29 k0_pay20 k0_pay21 k0_pay22 k0_pay23 k0_pay24 k0_pay25 k0_pay11 k0_pay12
  rw [ld0, ld0, ld1, ld2, ld3, pay10_eq]
  unfold k0_pay13 expR expoF
  rfl

theorem codes_eq : k0_pay15 (F := Ideal) (k0_pay27 a0 a1 a2 a3 a4) (k0_pay28 a0 a1 a2 a3 a4) (k0_pay29 a0 a1 a2 a3 a4) (Scalar.ofBits .f32 0xC2FA0000#32)
    (Scalar.ofBits .f32 0x43000000#32) = codesF (dhF a1 a2 a3 a4 a0) (expR a0 a1 a2 a3 a4) := by
  unfold k0_pay15
  rw [exps_eq, pay27_eq]
  unfold codesF
  rfl

theorem exp_at (b : Fin 3) (s : Fin 512) (t : Fin 20) :
    (expR a0 a1 a2 a3 a4 (ix3 b s t) : EReal) = expo (bound (fun l => dhF a1 a2 a3 a4 a0 (ix4 b s t l))) :=
  (expoF_at _ b s t).trans (congrArg expo (bound_ref _ b s t))

/-- The block of the reference's gradient that holds a column. -/
theorem blk_ref (b : Fin 3) (s : Fin 512) (q : Fin 2560) (t : Fin 20) (ht : t.val = q.val / 128) :
    (fun l => (dhF a1 a2 a3 a4 a0 (ix4 b s t l) : EReal)) = blk (tokR a0 a1 a2 a3 a4 b) s q :=
  funext fun l => dh_ref a1 a2 a3 a4 a0 b s t l _ (by rw [ht])

theorem code_at (b : Fin 3) (s : Fin 512) (q : Fin 2560) :
    (codesF (dhF a1 a2 a3 a4 a0) (expR a0 a1 a2 a3 a4) (ix4 b s ⟨q.val / 128, by omega⟩ ⟨q.val % 128, Nat.mod_lt _ (by decide)⟩) : EReal)
      = codeT (tokR a0 a1 a2 a3 a4 b) s q := by
  refine (codesF_at _ _ _ _ _ _).trans ?_
  rw [exp_at, exp2_neg_expo, blk_ref a0 a1 a2 a3 a4 b s q _ rfl]
  exact congrArg (fun v => min _ (max _ (v * _))) (congrFun (blk_ref a0 a1 a2 a3 a4 b s q _ rfl) _)

theorem ref6 (b : Fin 3) (s : Fin 512) (q : Fin 2560) :
    (G6 (F := Ideal) a0 a1 a2 a3 a4 (ix3 b s q) : EReal) = codeT (tokR a0 a1 a2 a3 a4 b) s q := by
  unfold G6 k0_pay17
  rw [codes_eq]
  exact (flat_at _ b s q).trans (code_at a0 a1 a2 a3 a4 b s q)

theorem pay16_eq : k0_pay16 (F := Ideal) (k0_pay27 a0 a1 a2 a3 a4) (k0_pay28 a0 a1 a2 a3 a4) (k0_pay29 a0 a1 a2 a3 a4) (Scalar.ofBits .f32 0xC2FA0000#32)
    (Scalar.ofBits .f32 0x43000000#32)
    = shapeCast S3x512x2560 (dhwF (codesF (dhF a1 a2 a3 a4 a0) (expR a0 a1 a2 a3 a4)) (expR a0 a1 a2 a3 a4)) shapeCasts_S3x512x20x128_S3x512x2560 := by
  unfold k0_pay16 k0_pay14
  rw [codes_eq, exps_eq]
  unfold dhwF
  rfl

theorem ref5 (b : Fin 3) (s : Fin 512) (q : Fin 2560) :
    (G5 (F := Ideal) a0 a1 a2 a3 a4 (ix3 b s q) : EReal) = codeT (tokR a0 a1 a2 a3 a4 b) s q * scaleT (tokR a0 a1 a2 a3 a4 b) s q := by
  refine (congrFun (pay16_eq a0 a1 a2 a3 a4) _).trans ((flat_at _ b s q).trans ((dhwF_at _ _ _ _ _ _).trans ?_))
  rw [code_at, exp_at, exp2_expo, blk_ref a0 a1 a2 a3 a4 b s q _ rfl]
  rfl

theorem exp2_at (e : FVec Ideal S3x512x20 .f32) (b : Fin 3) (s : Fin 512) (t : Fin 20) : (exp2 e (ix3 b s t) : EReal) = Ideal.exp2 (e (ix3 b s t)) := rfl

theorem pay14_eq : k0_pay14 (F := Ideal) (k0_pay28 a0 a1 a2 a3 a4) (k0_pay29 a0 a1 a2 a3 a4) (Scalar.ofBits .f32 0xC2FA0000#32)
    (Scalar.ofBits .f32 0x43000000#32) = exp2 (expR a0 a1 a2 a3 a4) := by
  unfold k0_pay14
  rw [exps_eq]

theorem ref7 (b : Fin 3) (s : Fin 512) (t : Fin 20) :
    (G7 (F := Ideal) a0 a1 a2 a3 a4 (ix3 b s t) : EReal) = scaleT (tokR a0 a1 a2 a3 a4 b) s ⟨128 * t.val, by omega⟩ := by
  refine (congrFun (pay14_eq a0 a1 a2 a3 a4) _).trans ((exp2_at _ _ _ _).trans ?_)
  rw [exp_at, exp2_expo, blk_ref a0 a1 a2 a3 a4 b s ⟨128 * t.val, by omega⟩ t (by show t.val = 128 * t.val / 128; omega)]
  rfl

end Cert.HeadReferenceIdeal.Value
-- ==== Proof.HeadRefSums.lean ====
/- The reference's gradients of the normalisation's scale and shift, element by element. -/
module
public import proofs.«01_k».proof.Proof.HeadRefScale
@[expose] public section
set_option maxRecDepth 16384
noncomputable section
namespace Cert.HeadReferenceIdeal.Value
open Cert.HeadReferenceIdeal Cert.HeadReferenceIdeal.Gen Idealize.ShloMosaic Idealize.ShloMosaic.TcCoe Idealize.SL.Sem
open Cert.HeadMath
open Cert.HeadIdeal.Value (eps)

/-- A sum over what reduces to column `q` is the sum over the batches and the tokens. -/
theorem sum_tokens (h : S3x512x2560.Reduces [0, 1] S2560) (v : S3x512x2560.Idx → EReal) (q : Fin 2560) :
    Ideal.reduceAdd h v (ix1 q) = ∑ b : Fin 3, ∑ s : Fin 512, v (ix3 b s q) := by
  rw [← Fintype.sum_prod_type' fun (b : Fin 3) (s : Fin 512) => v (ix3 b s q)]
  refine Finset.sum_filter_eq_sum_of_fiber _ (fun k : Fin 3 × Fin 512 => (ix3 k.1 k.2 q : S3x512x2560.Idx))
    (fun k k' e => Prod.ext (congrFun e 0) (congrFun e 1)) (fun i => ⟨fun e => ⟨(i 0, i 1), ?_⟩, ?_⟩) v
  · funext a
    match a with
    | ⟨0, _⟩ => rfl
    | ⟨1, _⟩ => rfl
    | ⟨2, _⟩ => exact (congrFun e 0).symm
  · rintro ⟨k, rfl⟩
    funext a
    match a with
    | ⟨0, _⟩ => rfl

theorem scale_sum (w xh : FVec Ideal S3x512x2560 .f32) (q : Fin 2560) :
    (k0_pay18 (F := Ideal) xh w (ix2 0 q) : EReal) = ∑ b : Fin 3, ∑ s : Fin 512, (w (ix3 b s q) : EReal) * xh (ix3 b s q) := by
  pointwise [k0_pay18]
  exact sum_tokens _ _ q

theorem shift_sum (w : FVec Ideal S3x512x2560 .f32) (q : Fin 2560) :
    (k0_pay19 (F := Ideal) w (ix2 0 q) : EReal) = ∑ b : Fin 3, ∑ s : Fin 512, (w (ix3 b s q) : EReal) := by
  pointwise [k0_pay19]
  exact sum_tokens _ _ q

variable (a0 : Vec Ideal S3x512x2560 .bf16) (a1 a2 : Vec Ideal S2560 .f32) (a3 : Vec Ideal S3x512 .i32) (a4 : Vec Ideal S3x5x2560 .f32)

theorem pay26_eq : k0_pay26 (F := Ideal) a0 a1 a2 a3 a4 = dyF a4 (k0_pay4 a3) (k0_pay5 a3) (k0_pay6 a1 a2 a3 a0) (k0_pay7 a1 a2 a3 a0) := by
  unfold k0_pay26 k0_pay22 k0_pay23 k0_pay24 k0_pay25
  rw [ld0, ld0, ld1, ld2, ld3, pay8_eq]

theorem pay21_eq : k0_pay21 (F := Ideal) a0 a1 a2 a3 a4 = k0_pay3 a0 := by
  unfold k0_pay21
  rw [ld3]

theorem ref8 (q : Fin 2560) : (G8 (F := Ideal) a0 a1 a2 a3 a4 (ix2 0 q) : EReal)
    = ∑ b, ∑ s, dyR a0 a1 a2 a3 a4 b s q * xhat eps (fun d => (a0 (ix3 b s d) : EReal)) q := by
  unfold G8
  rw [pay26_eq, pay21_eq]
  refine (scale_sum _ _ q).trans (Finset.sum_congr rfl fun b _ => Finset.sum_congr rfl fun s _ => ?_)
  rw [dy_ref a1 a2 a3 a4 a0 b s q, xhat_ref a0 b s q]

theorem ref9 (q : Fin 2560) : (G9 (F := Ideal) a0 a1 a2 a3 a4 (ix2 0 q) : EReal) = ∑ b, ∑ s, dyR a0 a1 a2 a3 a4 b s q := by
  unfold G9
  rw [pay26_eq]
  exact (shift_sum _ q).trans (Finset.sum_congr rfl fun b _ => Finset.sum_congr rfl fun s _ => dy_ref a1 a2 a3 a4 a0 b s q)

end Cert.HeadReferenceIdeal.Value
-- ==== Proof.HeadAlgebraic.lean ====
/- The head's value claim: over exact arithmetic the kernel and the reference leave the same products, codes,
   scales, and gradients of the normalisation's scale and shift. -/
module
public import proofs.«01_k».proof.Defs
public import proofs.«01_k».proof.Proof.HeadRegular
public import proofs.«01_k».proof.Proof.HeadRefSums
@[expose] public section
set_option maxRecDepth 16384
noncomputable section
namespace Cert.HeadReferenceIdeal.Value
open Cert.HeadReferenceIdeal Cert.HeadReferenceIdeal.Gen Idealize.ShloMosaic Idealize.ShloMosaic.TcCoe Idealize.SL.Sem
open Cert.HeadMath
open Cert.HeadIdeal.Value (tokK tokM dhwR codesR scalesR shiftM scaleM totalR)

theorem row_index (j : S1x2560.Idx) : ∃ q : Fin 2560, j = ix2 0 q := ⟨j 1, funext fun a => match a with
  | ⟨0, _⟩ => Fin.ext (by have : (j 0).val < 1 := (j 0).isLt; show (j 0).val = 0; omega)
  | ⟨1, _⟩ => rfl⟩

theorem algebraic : Cert.algebraic_HeadIdeal_HeadReferenceIdeal_pre_regular (hHeadIdeal := Cert.HeadIdeal.Gen.facts)
    (hHeadReferenceIdeal := Cert.HeadReferenceIdeal.Gen.facts) (hPre_regular := Cert.Pre_regular.Gen.facts) := fun m g m' g' hpre hag =>
  have hT : ∀ c : Dev nD, tokR (m' ((c : Thread nD τ).loc main_arg0)) (m' ((c : Thread nD τ).loc main_arg1)) (m' ((c : Thread nD τ).loc main_arg2))
      (m' ((c : Thread nD τ).loc main_arg3)) (m' ((c : Thread nD τ).loc main_arg4)) = tokM m c := fun c => by
    obtain ⟨h0, h1, h2, h3, h4⟩ := hag c
    rw [h0, h1, h2, h3, h4]
    have hr := Cert.Pre_regular.Value.regular _ _ _ _ _ (hpre c)
    exact tokR_eq _ _ _ _ _ (fun q => (hr 0 0 q).1.1)
  ⟨fun c => dhwR (tokM m c), fun c => codesR (tokM m c), fun c => scalesR (tokM m c), fun c => totalR (scaleM m c), fun c => totalR (shiftM m c),
    (θ_run _ _ _).mono (fun _ h c => ⟨(h c).1.trans (Cert.HeadIdeal.Value.final5 m c), (h c).2.1.trans (Cert.HeadIdeal.Value.final6 m c),
      (h c).2.2.1.trans (Cert.HeadIdeal.Value.final7 m c), (h c).2.2.2.1.trans (Cert.HeadIdeal.Value.final8 m c),
      (h c).2.2.2.2.1.trans (Cert.HeadIdeal.Value.final9 m c), (h c).2.2.2.2.2⟩) (Cert.HeadIdeal.Value.run_blocks m g),
    (θ_run _ _ _).mono (fun r h c => by
      obtain ⟨h5, h6, h7, h8, h9, hrest⟩ := h c
      have hr := Cert.Pre_regular.Value.regular _ _ _ _ _ (hpre c)
      refine ⟨h5.trans (funext fun j => ?_), h6.trans (funext fun j => ?_), h7.trans (funext fun j => ?_), h8.trans (funext fun j => ?_), h9.trans (funext fun j => ?_), hrest⟩
      · obtain ⟨b, s, q, rfl⟩ : ∃ (b : Fin 3) (s : Fin 512) (q : Fin 2560), j = ix3 b s q :=
          ⟨j 0, j 1, j 2, by funext a; match a with
            | ⟨0, _⟩ => rfl
            | ⟨1, _⟩ => rfl
            | ⟨2, _⟩ => rfl⟩
        refine (ref5 _ _ _ _ _ b s q).trans ?_
        rw [hT]
        rfl
      · obtain ⟨b, s, q, rfl⟩ : ∃ (b : Fin 3) (s : Fin 512) (q : Fin 2560), j = ix3 b s q :=
          ⟨j 0, j 1, j 2, by funext a; match a with
            | ⟨0, _⟩ => rfl
            | ⟨1, _⟩ => rfl
            | ⟨2, _⟩ => rfl⟩
        refine (ref6 _ _ _ _ _ b s q).trans ?_
        rw [hT]
        rfl
      · obtain ⟨b, s, t, rfl⟩ : ∃ (b : Fin 3) (s : Fin 512) (t : Fin 20), j = ix3 b s t :=
          ⟨j 0, j 1, j 2, by funext a; match a with
            | ⟨0, _⟩ => rfl
            | ⟨1, _⟩ => rfl
            | ⟨2, _⟩ => rfl⟩
        refine (ref7 _ _ _ _ _ b s t).trans ?_
        rw [hT]
        rfl
      · obtain ⟨q, rfl⟩ := row_index j
        refine (ref8 _ _ _ _ _ q).trans (Finset.sum_congr rfl fun b _ => ?_)
        obtain ⟨h0, h1, h2, h3, h4⟩ := hag c
        rw [h0, h1, h2, h3, h4]
        exact scale_spread _ _ _ _ _ (fun b n q => (hr b n q).1) (fun b n => (hr b n 0).2.1) (fun b n => (hr b n 0).2.2) b q
      · obtain ⟨q, rfl⟩ := row_index j
        refine (ref9 _ _ _ _ _ q).trans (Finset.sum_congr rfl fun b _ => ?_)
        obtain ⟨h0, h1, h2, h3, h4⟩ := hag c
        rw [h0, h1, h2, h3, h4]
        exact shift_spread _ _ _ _ _ (fun b n q => (hr b n q).1) (fun b n => (hr b n 0).2.1) (fun b n => (hr b n 0).2.2) b q) (run m' g')⟩
end Cert.HeadReferenceIdeal.Value
-- ==== Proof.lean ====
/- The proof of the claim: frame, preserves and algebraic for the head's backward pass (Proof/Head*.lean) and for the data gradient
   (Proof/Block, Final, Grad, RefValue.lean). The generated modules give the facts the programs state. -/
module

public import proofs.«01_k».proof.Defs
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame.Runs
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame.Runs
public import proofs.«01_k».proof.Proof.Gen.HeadReferenceIdeal
public import proofs.«01_k».proof.Proof.Gen.HeadReferenceIdeal.Skeleton
public import proofs.«01_k».proof.Proof.Gen.HeadReferenceIdeal.Launch
public import proofs.«01_k».proof.Proof.Gen.HeadReferenceIdeal.Points
public import proofs.«01_k».proof.Proof.Gen.HeadReferenceIdeal.Frame
public import proofs.«01_k».proof.Proof.Gen.HeadReferenceIdeal.Value
public import proofs.«01_k».proof.Proof.Gen.Pre_regular
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Final
public import proofs.«01_k».proof.Proof.RefValue
public import proofs.«01_k».proof.Proof.HeadFrame
public import proofs.«01_k».proof.Proof.HeadAlgebraic
public import Idealize.ShloMosaic.Adequacy
public import Idealize.ShloMosaic.Init

@[expose] public section

noncomputable section

namespace Cert.Proof

open Idealize.ShloMosaic Idealize.SL.Sem Cert.Kernel

/-- At the ideal values the kernel's result is the reference's: both are one sum per element (Proof/Grad.lean). -/
theorem algebraic : Cert.algebraic_KernelIdeal_ReferenceIdeal (hKernelIdeal := Cert.KernelIdeal.Gen.facts)
    (hReferenceIdeal := Cert.ReferenceIdeal.Gen.facts) := fun m g m' g' _ hag =>
  ⟨fun c => Cert.KernelIdeal.Value.result m c,
    (θ_run _ _ _).mono (fun _ h c => ⟨(h c).1.trans (Cert.KernelIdeal.Value.final m c), (h c).2⟩) (Cert.KernelIdeal.Value.run_blocks m g),
    (θ_run _ _ _).mono (fun r h c => ⟨(h c).1.trans (by
      rw [(hag c).1, (hag c).2.1, (hag c).2.2]
      funext j
      obtain ⟨r, f, rfl⟩ : ∃ (r : Fin 1536) (f : Fin 9728), j = ValueIdx.ix2 r f :=
        ⟨j 0, j 1, by funext a; match a with
          | ⟨0, _⟩ => rfl
          | ⟨1, _⟩ => rfl⟩
      exact Cert.ReferenceIdeal.Value.ref_apply _ _ _ r f), (h c).2⟩) (Cert.ReferenceIdeal.Value.run m' g')⟩

/-- The constant the head's kernel multiplies by in place of dividing by 2560 is read as 1/2560. -/
theorem preserves_head : Cert.preserves_Head_HeadIdeal :=
  IdealRules.named_const.statement Cert.HeadIdeal.κ "inv_d" .f32 0x39CCCCCD#32 ((1 / 2560 : ℝ) : EReal) rfl

theorem claim : Cert.Claim := ⟨Cert.Head.Gen.facts, Cert.HeadIdeal.Gen.facts, Cert.HeadReferenceIdeal.Gen.facts, Cert.Kernel.Gen.facts, Cert.KernelIdeal.Gen.facts, Cert.ReferenceIdeal.Gen.facts, Cert.Pre_regular.Gen.facts,
  fun m ρ _ => Cert.Head.Gen.frame m ρ, fun m ρ _ => Cert.HeadIdeal.Gen.frame m ρ, fun m ρ _ => Cert.HeadIdeal.Gen.frame m ρ,
  fun m ρ _ => Cert.HeadReferenceIdeal.Gen.frame m ρ, fun m ρ _ => Cert.HeadReferenceIdeal.Gen.frame m ρ,
  fun m ρ _ => Cert.Kernel.Gen.frame m ρ, fun m ρ _ => Cert.KernelIdeal.Gen.frame m ρ, fun m ρ _ => Cert.ReferenceIdeal.Gen.frame m ρ,
  preserves_head, Cert.HeadReferenceIdeal.Value.algebraic, trivial, algebraic⟩

end Cert.Proof

end
